-- ==== Defs.lean ====
def Pre_QuantIn (m : (ℓ : Loc Cert.QuantIn.nD Cert.QuantIn.τ Cert.QuantIn.sig) → Buf (Elt Bits) ℓ) : Prop :=
  True

def Pre_QuantInIdeal (m : (ℓ : Loc Cert.QuantInIdeal.nD Cert.QuantInIdeal.τ Cert.QuantInIdeal.sig) → Buf (Elt Ideal) ℓ) : Prop :=
  True

def Pre_RefQuantIdeal (m : (ℓ : Loc Cert.RefQuantIdeal.nD Cert.RefQuantIdeal.τ Cert.RefQuantIdeal.sig) → Buf (Elt Ideal) ℓ) : Prop :=
  True

def Pre_GemmOut (m : (ℓ : Loc Cert.GemmOut.nD Cert.GemmOut.τ Cert.GemmOut.sig) → Buf (Elt Bits) ℓ) : Prop :=
  True

def Pre_GemmOutIdeal (m : (ℓ : Loc Cert.GemmOutIdeal.nD Cert.GemmOutIdeal.τ Cert.GemmOutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_GemmIn (m : (ℓ : Loc Cert.GemmIn.nD Cert.GemmIn.τ Cert.GemmIn.sig) → Buf (Elt Bits) ℓ) : Prop :=
  True

def Pre_GemmInIdeal (m : (ℓ : Loc Cert.GemmInIdeal.nD Cert.GemmInIdeal.τ Cert.GemmInIdeal.sig) → Buf (Elt Ideal) ℓ) : Prop :=
  True

def Pre_RefInIdeal (m : (ℓ : Loc Cert.RefInIdeal.nD Cert.RefInIdeal.τ Cert.RefInIdeal.sig) → Buf (Elt Ideal) ℓ) : Prop :=
  True

def quiescent_QuantIn [hQuantIn : Cert.QuantIn.Facts] : Prop :=
  ∀ (m : (ℓ : Loc Cert.QuantIn.nD Cert.QuantIn.τ Cert.QuantIn.sig) → Buf (Elt Bits) ℓ) (g : Dev Cert.QuantIn.nD → PrngReg), Pre_QuantIn m →
    θ_run (Cert.QuantIn.defs (F := Bits)) (onTc (τ := Cert.QuantIn.τ) (Cert.QuantIn.main (F := Bits))) ⟨m, fun _ => 0, g⟩ (fun r => (∀ c : Dev Cert.QuantIn.nD,
      r.2.mem ((c.tc : Thread Cert.QuantIn.nD Cert.QuantIn.τ).loc Cert.QuantIn.main_arg0) = m ((c.tc : Thread Cert.QuantIn.nD Cert.QuantIn.τ).loc Cert.QuantIn.main_arg0)
      ∧ r.2.mem ((c.tc : Thread Cert.QuantIn.nD Cert.QuantIn.τ).loc Cert.QuantIn.main_arg1) = m ((c.tc : Thread Cert.QuantIn.nD Cert.QuantIn.τ).loc Cert.QuantIn.main_arg1)
      ∧ r.2.mem ((c.tc : Thread Cert.QuantIn.nD Cert.QuantIn.τ).loc Cert.QuantIn.main_arg2) = m ((c.tc : Thread Cert.QuantIn.nD Cert.QuantIn.τ).loc Cert.QuantIn.main_arg2)
      ∧ r.2.mem ((c.tc : Thread Cert.QuantIn.nD Cert.QuantIn.τ).loc Cert.QuantIn.main_arg3) = m ((c.tc : Thread Cert.QuantIn.nD Cert.QuantIn.τ).loc Cert.QuantIn.main_arg3))
      ∧ r.2.sem = fun _ => 0)

def quiescent_QuantInIdeal [hQuantInIdeal : Cert.QuantInIdeal.Facts] : Prop :=
  ∀ (m : (ℓ : Loc Cert.QuantInIdeal.nD Cert.QuantInIdeal.τ Cert.QuantInIdeal.sig) → Buf (Elt Ideal) ℓ) (g : Dev Cert.QuantInIdeal.nD → PrngReg), Pre_QuantInIdeal m →
    θ_run (Cert.QuantInIdeal.defs (F := Ideal)) (onTc (τ := Cert.QuantInIdeal.τ) (Cert.QuantInIdeal.main (F := Ideal))) ⟨m, fun _ => 0, g⟩ (fun r => (∀ c : Dev Cert.QuantInIdeal.nD,
      r.2.mem ((c.tc : Thread Cert.QuantInIdeal.nD Cert.QuantInIdeal.τ).loc Cert.QuantInIdeal.main_arg0) = m ((c.tc : Thread Cert.QuantInIdeal.nD Cert.QuantInIdeal.τ).loc Cert.QuantInIdeal.main_arg0)
      ∧ r.2.mem ((c.tc : Thread Cert.QuantInIdeal.nD Cert.QuantInIdeal.τ).loc Cert.QuantInIdeal.main_arg1) = m ((c.tc : Thread Cert.QuantInIdeal.nD Cert.QuantInIdeal.τ).loc Cert.QuantInIdeal.main_arg1)
      ∧ r.2.mem ((c.tc : Thread Cert.QuantInIdeal.nD Cert.QuantInIdeal.τ).loc Cert.QuantInIdeal.main_arg2) = m ((c.tc : Thread Cert.QuantInIdeal.nD Cert.QuantInIdeal.τ).loc Cert.QuantInIdeal.main_arg2)
      ∧ r.2.mem ((c.tc : Thread Cert.QuantInIdeal.nD Cert.QuantInIdeal.τ).loc Cert.QuantInIdeal.main_arg3) = m ((c.tc : Thread Cert.QuantInIdeal.nD Cert.QuantInIdeal.τ).loc Cert.QuantInIdeal.main_arg3))
      ∧ r.2.sem = fun _ => 0)

def quiescent_RefQuantIdeal [hRefQuantIdeal : Cert.RefQuantIdeal.Facts] : Prop :=
  ∀ (m : (ℓ : Loc Cert.RefQuantIdeal.nD Cert.RefQuantIdeal.τ Cert.RefQuantIdeal.sig) → Buf (Elt Ideal) ℓ) (g : Dev Cert.RefQuantIdeal.nD → PrngReg), Pre_RefQuantIdeal m →
    θ_run (Cert.RefQuantIdeal.defs (F := Ideal)) (onTc (τ := Cert.RefQuantIdeal.τ) (Cert.RefQuantIdeal.main (F := Ideal))) ⟨m, fun _ => 0, g⟩ (fun r => (∀ c : Dev Cert.RefQuantIdeal.nD,
      r.2.mem ((c.tc : Thread Cert.RefQuantIdeal.nD Cert.RefQuantIdeal.τ).loc Cert.RefQuantIdeal.main_arg0) = m ((c.tc : Thread Cert.RefQuantIdeal.nD Cert.RefQuantIdeal.τ).loc Cert.RefQuantIdeal.main_arg0)
      ∧ r.2.mem ((c.tc : Thread Cert.RefQuantIdeal.nD Cert.RefQuantIdeal.τ).loc Cert.RefQuantIdeal.main_arg1) = m ((c.tc : Thread Cert.RefQuantIdeal.nD Cert.RefQuantIdeal.τ).loc Cert.RefQuantIdeal.main_arg1)
      ∧ r.2.mem ((c.tc : Thread Cert.RefQuantIdeal.nD Cert.RefQuantIdeal.τ).loc Cert.RefQuantIdeal.main_arg2) = m ((c.tc : Thread Cert.RefQuantIdeal.nD Cert.RefQuantIdeal.τ).loc Cert.RefQuantIdeal.main_arg2)
      ∧ r.2.mem ((c.tc : Thread Cert.RefQuantIdeal.nD Cert.RefQuantIdeal.τ).loc Cert.RefQuantIdeal.main_arg3) = m ((c.tc : Thread Cert.RefQuantIdeal.nD Cert.RefQuantIdeal.τ).loc Cert.RefQuantIdeal.main_arg3))
      ∧ r.2.sem = fun _ => 0)

def quiescent_GemmOut [hGemmOut : Cert.GemmOut.Facts] : Prop :=
  ∀ (m : (ℓ : Loc Cert.GemmOut.nD Cert.GemmOut.τ Cert.GemmOut.sig) → Buf (Elt Bits) ℓ) (g : Dev Cert.GemmOut.nD → PrngReg), Pre_GemmOut m →
    θ_run (Cert.GemmOut.defs (F := Bits)) (onTc (τ := Cert.GemmOut.τ) (Cert.GemmOut.main (F := Bits))) ⟨m, fun _ => 0, g⟩ (fun r => (∀ c : Dev Cert.GemmOut.nD,
      r.2.mem ((c.tc : Thread Cert.GemmOut.nD Cert.GemmOut.τ).loc Cert.GemmOut.main_arg0) = m ((c.tc : Thread Cert.GemmOut.nD Cert.GemmOut.τ).loc Cert.GemmOut.main_arg0)
      ∧ r.2.mem ((c.tc : Thread Cert.GemmOut.nD Cert.GemmOut.τ).loc Cert.GemmOut.main_arg1) = m ((c.tc : Thread Cert.GemmOut.nD Cert.GemmOut.τ).loc Cert.GemmOut.main_arg1)
      ∧ r.2.mem ((c.tc : Thread Cert.GemmOut.nD Cert.GemmOut.τ).loc Cert.GemmOut.main_arg2) = m ((c.tc : Thread Cert.GemmOut.nD Cert.GemmOut.τ).loc Cert.GemmOut.main_arg2)
      ∧ r.2.mem ((c.tc : Thread Cert.GemmOut.nD Cert.GemmOut.τ).loc Cert.GemmOut.main_arg3) = m ((c.tc : Thread Cert.GemmOut.nD Cert.GemmOut.τ).loc Cert.GemmOut.main_arg3))
      ∧ r.2.sem = fun _ => 0)

def quiescent_GemmOutIdeal [hGemmOutIdeal : Cert.GemmOutIdeal.Facts] : Prop :=
  ∀ (m : (ℓ : Loc Cert.GemmOutIdeal.nD Cert.GemmOutIdeal.τ Cert.GemmOutIdeal.sig) → Buf (Elt Ideal) ℓ) (g : Dev Cert.GemmOutIdeal.nD → PrngReg), Pre_GemmOutIdeal m →
    θ_run (Cert.GemmOutIdeal.defs (F := Ideal)) (onTc (τ := Cert.GemmOutIdeal.τ) (Cert.GemmOutIdeal.main (F := Ideal))) ⟨m, fun _ => 0, g⟩ (fun r => (∀ c : Dev Cert.GemmOutIdeal.nD,
      r.2.mem ((c.tc : Thread Cert.GemmOutIdeal.nD Cert.GemmOutIdeal.τ).loc Cert.GemmOutIdeal.main_arg0) = m ((c.tc : Thread Cert.GemmOutIdeal.nD Cert.GemmOutIdeal.τ).loc Cert.GemmOutIdeal.main_arg0)
      ∧ r.2.mem ((c.tc : Thread Cert.GemmOutIdeal.nD Cert.GemmOutIdeal.τ).loc Cert.GemmOutIdeal.main_arg1) = m ((c.tc : Thread Cert.GemmOutIdeal.nD Cert.GemmOutIdeal.τ).loc Cert.GemmOutIdeal.main_arg1)
      ∧ r.2.mem ((c.tc : Thread Cert.GemmOutIdeal.nD Cert.GemmOutIdeal.τ).loc Cert.GemmOutIdeal.main_arg2) = m ((c.tc : Thread Cert.GemmOutIdeal.nD Cert.GemmOutIdeal.τ).loc Cert.GemmOutIdeal.main_arg2)
      ∧ r.2.mem ((c.tc : Thread Cert.GemmOutIdeal.nD Cert.GemmOutIdeal.τ).loc Cert.GemmOutIdeal.main_arg3) = m ((c.tc : Thread Cert.GemmOutIdeal.nD Cert.GemmOutIdeal.τ).loc Cert.GemmOutIdeal.main_arg3))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3))
      ∧ r.2.sem = fun _ => 0)

def quiescent_GemmIn [hGemmIn : Cert.GemmIn.Facts] : Prop :=
  ∀ (m : (ℓ : Loc Cert.GemmIn.nD Cert.GemmIn.τ Cert.GemmIn.sig) → Buf (Elt Bits) ℓ) (g : Dev Cert.GemmIn.nD → PrngReg), Pre_GemmIn m →
    θ_run (Cert.GemmIn.defs (F := Bits)) (onTc (τ := Cert.GemmIn.τ) (Cert.GemmIn.main (F := Bits))) ⟨m, fun _ => 0, g⟩ (fun r => (∀ c : Dev Cert.GemmIn.nD,
      r.2.mem ((c.tc : Thread Cert.GemmIn.nD Cert.GemmIn.τ).loc Cert.GemmIn.main_arg0) = m ((c.tc : Thread Cert.GemmIn.nD Cert.GemmIn.τ).loc Cert.GemmIn.main_arg0)
      ∧ r.2.mem ((c.tc : Thread Cert.GemmIn.nD Cert.GemmIn.τ).loc Cert.GemmIn.main_arg1) = m ((c.tc : Thread Cert.GemmIn.nD Cert.GemmIn.τ).loc Cert.GemmIn.main_arg1)
      ∧ r.2.mem ((c.tc : Thread Cert.GemmIn.nD Cert.GemmIn.τ).loc Cert.GemmIn.main_arg2) = m ((c.tc : Thread Cert.GemmIn.nD Cert.GemmIn.τ).loc Cert.GemmIn.main_arg2))
      ∧ r.2.sem = fun _ => 0)

def quiescent_GemmInIdeal [hGemmInIdeal : Cert.GemmInIdeal.Facts] : Prop :=
  ∀ (m : (ℓ : Loc Cert.GemmInIdeal.nD Cert.GemmInIdeal.τ Cert.GemmInIdeal.sig) → Buf (Elt Ideal) ℓ) (g : Dev Cert.GemmInIdeal.nD → PrngReg), Pre_GemmInIdeal m →
    θ_run (Cert.GemmInIdeal.defs (F := Ideal)) (onTc (τ := Cert.GemmInIdeal.τ) (Cert.GemmInIdeal.main (F := Ideal))) ⟨m, fun _ => 0, g⟩ (fun r => (∀ c : Dev Cert.GemmInIdeal.nD,
      r.2.mem ((c.tc : Thread Cert.GemmInIdeal.nD Cert.GemmInIdeal.τ).loc Cert.GemmInIdeal.main_arg0) = m ((c.tc : Thread Cert.GemmInIdeal.nD Cert.GemmInIdeal.τ).loc Cert.GemmInIdeal.main_arg0)
      ∧ r.2.mem ((c.tc : Thread Cert.GemmInIdeal.nD Cert.GemmInIdeal.τ).loc Cert.GemmInIdeal.main_arg1) = m ((c.tc : Thread Cert.GemmInIdeal.nD Cert.GemmInIdeal.τ).loc Cert.GemmInIdeal.main_arg1)
      ∧ r.2.mem ((c.tc : Thread Cert.GemmInIdeal.nD Cert.GemmInIdeal.τ).loc Cert.GemmInIdeal.main_arg2) = m ((c.tc : Thread Cert.GemmInIdeal.nD Cert.GemmInIdeal.τ).loc Cert.GemmInIdeal.main_arg2))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2))
      ∧ r.2.sem = fun _ => 0)

def preserves_QuantIn_QuantInIdeal : Prop :=
  True

def algebraic_QuantInIdeal_RefQuantIdeal [hQuantInIdeal : Cert.QuantInIdeal.Facts] [hRefQuantIdeal : Cert.RefQuantIdeal.Facts] : Prop :=
  ∀ (m : (ℓ : Loc Cert.QuantInIdeal.nD Cert.QuantInIdeal.τ Cert.QuantInIdeal.sig) → Buf (Elt Ideal) ℓ) (g : Dev Cert.QuantInIdeal.nD → PrngReg)
    (m' : (ℓ : Loc Cert.RefQuantIdeal.nD Cert.RefQuantIdeal.τ Cert.RefQuantIdeal.sig) → Buf (Elt Ideal) ℓ) (g' : Dev Cert.RefQuantIdeal.nD → PrngReg), Pre_QuantInIdeal m →
    (∀ c : Dev Cert.QuantInIdeal.nD,
      m' ((c.tc : Thread Cert.RefQuantIdeal.nD Cert.RefQuantIdeal.τ).loc Cert.RefQuantIdeal.main_arg0) = m ((c.tc : Thread Cert.QuantInIdeal.nD Cert.QuantInIdeal.τ).loc Cert.QuantInIdeal.main_arg0)
      ∧ m' ((c.tc : Thread Cert.RefQuantIdeal.nD Cert.RefQuantIdeal.τ).loc Cert.RefQuantIdeal.main_arg1) = m ((c.tc : Thread Cert.QuantInIdeal.nD Cert.QuantInIdeal.τ).loc Cert.QuantInIdeal.main_arg1)
      ∧ m' ((c.tc : Thread Cert.RefQuantIdeal.nD Cert.RefQuantIdeal.τ).loc Cert.RefQuantIdeal.main_arg2) = m ((c.tc : Thread Cert.QuantInIdeal.nD Cert.QuantInIdeal.τ).loc Cert.QuantInIdeal.main_arg2)
      ∧ m' ((c.tc : Thread Cert.RefQuantIdeal.nD Cert.RefQuantIdeal.τ).loc Cert.RefQuantIdeal.main_arg3) = m ((c.tc : Thread Cert.QuantInIdeal.nD Cert.QuantInIdeal.τ).loc Cert.QuantInIdeal.main_arg3)) →
    ∃ (v0 : (c : Dev Cert.QuantInIdeal.nD) → Buf (Elt Ideal) ((c.tc : Thread Cert.QuantInIdeal.nD Cert.QuantInIdeal.τ).loc Cert.QuantInIdeal.main_v3_0)) (v1 : (c : Dev Cert.QuantInIdeal.nD) → Buf (Elt Ideal) ((c.tc : Thread Cert.QuantInIdeal.nD Cert.QuantInIdeal.τ).loc Cert.QuantInIdeal.main_v3_1)) (v2 : (c : Dev Cert.QuantInIdeal.nD) → Buf (Elt Ideal) ((c.tc : Thread Cert.QuantInIdeal.nD Cert.QuantInIdeal.τ).loc Cert.QuantInIdeal.main_v3_2)) (v3 : (c : Dev Cert.QuantInIdeal.nD) → Buf (Elt Ideal) ((c.tc : Thread Cert.QuantInIdeal.nD Cert.QuantInIdeal.τ).loc Cert.QuantInIdeal.main_v3_3)),
      θ_run (Cert.QuantInIdeal.defs (F := Ideal)) (onTc (τ := Cert.QuantInIdeal.τ) (Cert.QuantInIdeal.main (F := Ideal))) ⟨m, fun _ => 0, g⟩ (fun r => ∀ c : Dev Cert.QuantInIdeal.nD,
          r.2.mem ((c.tc : Thread Cert.QuantInIdeal.nD Cert.QuantInIdeal.τ).loc Cert.QuantInIdeal.main_v3_0) = v0 c
          ∧ r.2.mem ((c.tc : Thread Cert.QuantInIdeal.nD Cert.QuantInIdeal.τ).loc Cert.QuantInIdeal.main_v3_1) = v1 c
          ∧ r.2.mem ((c.tc : Thread Cert.QuantInIdeal.nD Cert.QuantInIdeal.τ).loc Cert.QuantInIdeal.main_v3_2) = v2 c
          ∧ r.2.mem ((c.tc : Thread Cert.QuantInIdeal.nD Cert.QuantInIdeal.τ).loc Cert.QuantInIdeal.main_v3_3) = v3 c
          ∧ r.2.mem ((c.tc : Thread Cert.QuantInIdeal.nD Cert.QuantInIdeal.τ).loc Cert.QuantInIdeal.main_arg0) = m ((c.tc : Thread Cert.QuantInIdeal.nD Cert.QuantInIdeal.τ).loc Cert.QuantInIdeal.main_arg0)
          ∧ r.2.mem ((c.tc : Thread Cert.QuantInIdeal.nD Cert.QuantInIdeal.τ).loc Cert.QuantInIdeal.main_arg1) = m ((c.tc : Thread Cert.QuantInIdeal.nD Cert.QuantInIdeal.τ).loc Cert.QuantInIdeal.main_arg1)
          ∧ r.2.mem ((c.tc : Thread Cert.QuantInIdeal.nD Cert.QuantInIdeal.τ).loc Cert.QuantInIdeal.main_arg2) = m ((c.tc : Thread Cert.QuantInIdeal.nD Cert.QuantInIdeal.τ).loc Cert.QuantInIdeal.main_arg2)
          ∧ r.2.mem ((c.tc : Thread Cert.QuantInIdeal.nD Cert.QuantInIdeal.τ).loc Cert.QuantInIdeal.main_arg3) = m ((c.tc : Thread Cert.QuantInIdeal.nD Cert.QuantInIdeal.τ).loc Cert.QuantInIdeal.main_arg3))
      ∧ θ_run (Cert.RefQuantIdeal.defs (F := Ideal)) (onTc (τ := Cert.RefQuantIdeal.τ) (Cert.RefQuantIdeal.main (F := Ideal))) ⟨m', fun _ => 0, g'⟩ (fun r => ∀ c : Dev Cert.RefQuantIdeal.nD,
          r.2.mem ((c.tc : Thread Cert.RefQuantIdeal.nD Cert.RefQuantIdeal.τ).loc Cert.RefQuantIdeal.main_v0_0) = v0 c
          ∧ r.2.mem ((c.tc : Thread Cert.RefQuantIdeal.nD Cert.RefQuantIdeal.τ).loc Cert.RefQuantIdeal.main_v0_1) = v1 c
          ∧ r.2.mem ((c.tc : Thread Cert.RefQuantIdeal.nD Cert.RefQuantIdeal.τ).loc Cert.RefQuantIdeal.main_v0_2) = v2 c
          ∧ r.2.mem ((c.tc : Thread Cert.RefQuantIdeal.nD Cert.RefQuantIdeal.τ).loc Cert.RefQuantIdeal.main_v0_3) = v3 c
          ∧ r.2.mem ((c.tc : Thread Cert.RefQuantIdeal.nD Cert.RefQuantIdeal.τ).loc Cert.RefQuantIdeal.main_arg0) = m' ((c.tc : Thread Cert.RefQuantIdeal.nD Cert.RefQuantIdeal.τ).loc Cert.RefQuantIdeal.main_arg0)
          ∧ r.2.mem ((c.tc : Thread Cert.RefQuantIdeal.nD Cert.RefQuantIdeal.τ).loc Cert.RefQuantIdeal.main_arg1) = m' ((c.tc : Thread Cert.RefQuantIdeal.nD Cert.RefQuantIdeal.τ).loc Cert.RefQuantIdeal.main_arg1)
          ∧ r.2.mem ((c.tc : Thread Cert.RefQuantIdeal.nD Cert.RefQuantIdeal.τ).loc Cert.RefQuantIdeal.main_arg2) = m' ((c.tc : Thread Cert.RefQuantIdeal.nD Cert.RefQuantIdeal.τ).loc Cert.RefQuantIdeal.main_arg2)
          ∧ r.2.mem ((c.tc : Thread Cert.RefQuantIdeal.nD Cert.RefQuantIdeal.τ).loc Cert.RefQuantIdeal.main_arg3) = m' ((c.tc : Thread Cert.RefQuantIdeal.nD Cert.RefQuantIdeal.τ).loc Cert.RefQuantIdeal.main_arg3))

def preserves_GemmOut_GemmOutIdeal : Prop :=
  True

def algebraic_GemmOutIdeal_RefOutIdeal [hGemmOutIdeal : Cert.GemmOutIdeal.Facts] [hRefOutIdeal : Cert.RefOutIdeal.Facts] : Prop :=
  ∀ (m : (ℓ : Loc Cert.GemmOutIdeal.nD Cert.GemmOutIdeal.τ Cert.GemmOutIdeal.sig) → Buf (Elt Ideal) ℓ) (g : Dev Cert.GemmOutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_GemmOutIdeal m →
    (∀ c : Dev Cert.GemmOutIdeal.nD,
      m' ((c.tc : Thread Cert.RefOutIdeal.nD Cert.RefOutIdeal.τ).loc Cert.RefOutIdeal.main_arg0) = m ((c.tc : Thread Cert.GemmOutIdeal.nD Cert.GemmOutIdeal.τ).loc Cert.GemmOutIdeal.main_arg0)
      ∧ m' ((c.tc : Thread Cert.RefOutIdeal.nD Cert.RefOutIdeal.τ).loc Cert.RefOutIdeal.main_arg1) = m ((c.tc : Thread Cert.GemmOutIdeal.nD Cert.GemmOutIdeal.τ).loc Cert.GemmOutIdeal.main_arg1)
      ∧ m' ((c.tc : Thread Cert.RefOutIdeal.nD Cert.RefOutIdeal.τ).loc Cert.RefOutIdeal.main_arg2) = m ((c.tc : Thread Cert.GemmOutIdeal.nD Cert.GemmOutIdeal.τ).loc Cert.GemmOutIdeal.main_arg2)
      ∧ m' ((c.tc : Thread Cert.RefOutIdeal.nD Cert.RefOutIdeal.τ).loc Cert.RefOutIdeal.main_arg3) = m ((c.tc : Thread Cert.GemmOutIdeal.nD Cert.GemmOutIdeal.τ).loc Cert.GemmOutIdeal.main_arg3)) →
    ∃ (v0 : (c : Dev Cert.GemmOutIdeal.nD) → Buf (Elt Ideal) ((c.tc : Thread Cert.GemmOutIdeal.nD Cert.GemmOutIdeal.τ).loc Cert.GemmOutIdeal.main_v0)),
      θ_run (Cert.GemmOutIdeal.defs (F := Ideal)) (onTc (τ := Cert.GemmOutIdeal.τ) (Cert.GemmOutIdeal.main (F := Ideal))) ⟨m, fun _ => 0, g⟩ (fun r => ∀ c : Dev Cert.GemmOutIdeal.nD,
          r.2.mem ((c.tc : Thread Cert.GemmOutIdeal.nD Cert.GemmOutIdeal.τ).loc Cert.GemmOutIdeal.main_v0) = v0 c
          ∧ r.2.mem ((c.tc : Thread Cert.GemmOutIdeal.nD Cert.GemmOutIdeal.τ).loc Cert.GemmOutIdeal.main_arg0) = m ((c.tc : Thread Cert.GemmOutIdeal.nD Cert.GemmOutIdeal.τ).loc Cert.GemmOutIdeal.main_arg0)
          ∧ r.2.mem ((c.tc : Thread Cert.GemmOutIdeal.nD Cert.GemmOutIdeal.τ).loc Cert.GemmOutIdeal.main_arg1) = m ((c.tc : Thread Cert.GemmOutIdeal.nD Cert.GemmOutIdeal.τ).loc Cert.GemmOutIdeal.main_arg1)
          ∧ r.2.mem ((c.tc : Thread Cert.GemmOutIdeal.nD Cert.GemmOutIdeal.τ).loc Cert.GemmOutIdeal.main_arg2) = m ((c.tc : Thread Cert.GemmOutIdeal.nD Cert.GemmOutIdeal.τ).loc Cert.GemmOutIdeal.main_arg2)
          ∧ r.2.mem ((c.tc : Thread Cert.GemmOutIdeal.nD Cert.GemmOutIdeal.τ).loc Cert.GemmOutIdeal.main_arg3) = m ((c.tc : Thread Cert.GemmOutIdeal.nD Cert.GemmOutIdeal.τ).loc Cert.GemmOutIdeal.main_arg3))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v0) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3))

def preserves_GemmIn_GemmInIdeal : Prop :=
  True

def algebraic_GemmInIdeal_RefInIdeal [hGemmInIdeal : Cert.GemmInIdeal.Facts] [hRefInIdeal : Cert.RefInIdeal.Facts] : Prop :=
  ∀ (m : (ℓ : Loc Cert.GemmInIdeal.nD Cert.GemmInIdeal.τ Cert.GemmInIdeal.sig) → Buf (Elt Ideal) ℓ) (g : Dev Cert.GemmInIdeal.nD → PrngReg)
    (m' : (ℓ : Loc Cert.RefInIdeal.nD Cert.RefInIdeal.τ Cert.RefInIdeal.sig) → Buf (Elt Ideal) ℓ) (g' : Dev Cert.RefInIdeal.nD → PrngReg), Pre_GemmInIdeal m →
    (∀ c : Dev Cert.GemmInIdeal.nD,
      m' ((c.tc : Thread Cert.RefInIdeal.nD Cert.RefInIdeal.τ).loc Cert.RefInIdeal.main_arg0) = m ((c.tc : Thread Cert.GemmInIdeal.nD Cert.GemmInIdeal.τ).loc Cert.GemmInIdeal.main_arg0)
      ∧ m' ((c.tc : Thread Cert.RefInIdeal.nD Cert.RefInIdeal.τ).loc Cert.RefInIdeal.main_arg1) = m ((c.tc : Thread Cert.GemmInIdeal.nD Cert.GemmInIdeal.τ).loc Cert.GemmInIdeal.main_arg1)
      ∧ m' ((c.tc : Thread Cert.RefInIdeal.nD Cert.RefInIdeal.τ).loc Cert.RefInIdeal.main_arg2) = m ((c.tc : Thread Cert.GemmInIdeal.nD Cert.GemmInIdeal.τ).loc Cert.GemmInIdeal.main_arg2)) →
    ∃ (v0 : (c : Dev Cert.GemmInIdeal.nD) → Buf (Elt Ideal) ((c.tc : Thread Cert.GemmInIdeal.nD Cert.GemmInIdeal.τ).loc Cert.GemmInIdeal.main_v0)),
      θ_run (Cert.GemmInIdeal.defs (F := Ideal)) (onTc (τ := Cert.GemmInIdeal.τ) (Cert.GemmInIdeal.main (F := Ideal))) ⟨m, fun _ => 0, g⟩ (fun r => ∀ c : Dev Cert.GemmInIdeal.nD,
          r.2.mem ((c.tc : Thread Cert.GemmInIdeal.nD Cert.GemmInIdeal.τ).loc Cert.GemmInIdeal.main_v0) = v0 c
          ∧ r.2.mem ((c.tc : Thread Cert.GemmInIdeal.nD Cert.GemmInIdeal.τ).loc Cert.GemmInIdeal.main_arg0) = m ((c.tc : Thread Cert.GemmInIdeal.nD Cert.GemmInIdeal.τ).loc Cert.GemmInIdeal.main_arg0)
          ∧ r.2.mem ((c.tc : Thread Cert.GemmInIdeal.nD Cert.GemmInIdeal.τ).loc Cert.GemmInIdeal.main_arg1) = m ((c.tc : Thread Cert.GemmInIdeal.nD Cert.GemmInIdeal.τ).loc Cert.GemmInIdeal.main_arg1)
          ∧ r.2.mem ((c.tc : Thread Cert.GemmInIdeal.nD Cert.GemmInIdeal.τ).loc Cert.GemmInIdeal.main_arg2) = m ((c.tc : Thread Cert.GemmInIdeal.nD Cert.GemmInIdeal.τ).loc Cert.GemmInIdeal.main_arg2))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v0) = v0 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1)
          ∧ r.2.mem ((c.tc : Thread Cert.RefInIdeal.nD Cert.RefInIdeal.τ).loc Cert.RefInIdeal.main_arg2) = m' ((c.tc : Thread Cert.RefInIdeal.nD Cert.RefInIdeal.τ).loc Cert.RefInIdeal.main_arg2))

def Claim : Prop :=
  ∃ (hQuantIn : Cert.QuantIn.Facts) (hQuantInIdeal : Cert.QuantInIdeal.Facts) (hRefQuantIdeal : Cert.RefQuantIdeal.Facts) (hGemmOut : Cert.GemmOut.Facts) (hGemmOutIdeal : Cert.GemmOutIdeal.Facts) (hRefOutIdeal : Cert.RefOutIdeal.Facts) (hGemmIn : Cert.GemmIn.Facts) (hGemmInIdeal : Cert.GemmInIdeal.Facts) (hRefInIdeal : Cert.RefInIdeal.Facts),
    quiescent_QuantIn (hQuantIn := hQuantIn)
    ∧ quiescent_QuantInIdeal (hQuantInIdeal := hQuantInIdeal)
    ∧ quiescent_RefQuantIdeal (hRefQuantIdeal := hRefQuantIdeal)
    ∧ quiescent_GemmOut (hGemmOut := hGemmOut)
    ∧ quiescent_GemmOutIdeal (hGemmOutIdeal := hGemmOutIdeal)
    ∧ quiescent_RefOutIdeal (hRefOutIdeal := hRefOutIdeal)
    ∧ quiescent_GemmIn (hGemmIn := hGemmIn)
    ∧ quiescent_GemmInIdeal (hGemmInIdeal := hGemmInIdeal)
    ∧ quiescent_RefInIdeal (hRefInIdeal := hRefInIdeal)
    ∧ preserves_QuantIn_QuantInIdeal
    ∧ algebraic_QuantInIdeal_RefQuantIdeal (hQuantInIdeal := hQuantInIdeal) (hRefQuantIdeal := hRefQuantIdeal)
    ∧ preserves_GemmOut_GemmOutIdeal
    ∧ algebraic_GemmOutIdeal_RefOutIdeal (hGemmOutIdeal := hGemmOutIdeal) (hRefOutIdeal := hRefOutIdeal)
    ∧ preserves_GemmIn_GemmInIdeal
    ∧ algebraic_GemmInIdeal_RefInIdeal (hGemmInIdeal := hGemmInIdeal) (hRefInIdeal := hRefInIdeal)
-- ==== QuantIn.lean ====
abbrev S3072x8192 : Shape := ⟨2, ![3072, 8192]⟩
abbrev S1x8192 : Shape := ⟨2, ![1, 8192]⟩
abbrev S8192x9280 : Shape := ⟨2, ![8192, 9280]⟩
abbrev S64x73 : Shape := ⟨2, ![64, 73]⟩
abbrev S8192x64 : Shape := ⟨2, ![8192, 64]⟩
abbrev S8192x128 : Shape := ⟨2, ![8192, 128]⟩
abbrev S3072x64 : Shape := ⟨2, ![3072, 64]⟩
abbrev S128x8192 : Shape := ⟨2, ![128, 8192]⟩
abbrev S128x64 : Shape := ⟨2, ![128, 64]⟩
abbrev S1x1 : Shape := ⟨2, ![1, 1]⟩
abbrev S128x128 : Shape := ⟨2, ![128, 128]⟩
abbrev S32x128 : Shape := ⟨2, ![32, 128]⟩
abbrev S32 : Shape := ⟨1, ![32]⟩
abbrev S32x1 : Shape := ⟨2, ![32, 1]⟩
abbrev S32x64 : Shape := ⟨2, ![32, 64]⟩
abbrev S1x128 : Shape := ⟨2, ![1, 128]⟩

abbrev nBuf : Space → Nat
  | .hbm => 11
  | .vmem => 13
  | .smem => 1
  | _ => 0

abbrev bufTy : (tb : Table) → Fin (tcTables nBuf tb) → BufTy
  | .hbm, ⟨0, _⟩ => ⟨S3072x8192, .bf16⟩
  | .hbm, ⟨1, _⟩ => ⟨S1x8192, .bf16⟩
  | .hbm, ⟨2, _⟩ => ⟨S8192x9280, .fp8e4m3⟩
  | .hbm, ⟨3, _⟩ => ⟨S64x73, .f32⟩
  | .hbm, ⟨4, _⟩ => ⟨S8192x64, .fp8e4m3⟩
  | .hbm, ⟨5, _⟩ => ⟨S8192x64, .fp8e4m3⟩
  | .hbm, ⟨6, _⟩ => ⟨S8192x128, .fp8e4m3⟩
  | .hbm, ⟨7, _⟩ => ⟨S3072x8192, .fp8e4m3⟩
  | .hbm, ⟨8, _⟩ => ⟨S3072x64, .f32⟩
  | .hbm, ⟨9, _⟩ => ⟨S3072x8192, .bf16⟩
  | .hbm, ⟨10, _⟩ => ⟨S3072x64, .f32⟩
  | .local _ .vmem, ⟨0, _⟩ => ⟨S128x8192, .bf16⟩
  | .local _ .vmem, ⟨1, _⟩ => ⟨S128x8192, .bf16⟩
  | .local _ .vmem, ⟨2, _⟩ => ⟨S1x8192, .bf16⟩
  | .local _ .vmem, ⟨3, _⟩ => ⟨S8192x128, .fp8e4m3⟩
  | .local _ .vmem, ⟨4, _⟩ => ⟨S128x8192, .fp8e4m3⟩
  | .local _ .vmem, ⟨5, _⟩ => ⟨S128x8192, .fp8e4m3⟩
  | .local _ .vmem, ⟨6, _⟩ => ⟨S128x64, .f32⟩
  | .local _ .vmem, ⟨7, _⟩ => ⟨S128x64, .f32⟩
  | .local _ .vmem, ⟨8, _⟩ => ⟨S128x8192, .bf16⟩
  | .local _ .vmem, ⟨9, _⟩ => ⟨S128x8192, .bf16⟩
  | .local _ .vmem, ⟨10, _⟩ => ⟨S128x64, .f32⟩
  | .local _ .vmem, ⟨11, _⟩ => ⟨S128x64, .f32⟩
  | .local _ .vmem, ⟨12, _⟩ => ⟨S8192x128, .bf16⟩
  | .local _ .smem, ⟨0, _⟩ => ⟨S64x73, .f32⟩
  | _, _ => ⟨S3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  v10
def k0_off1 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v13 : Index := Scalar.indexCast v11
  let c0_9 : Index := 0#32
  ![v13.toNat, 0]
def k0_off2 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v18 : Index := Scalar.indexCast v11
  let c128 : Index := 128#32
  ![v18.toNat, 128]
def k0_off3 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v23 : Index := Scalar.indexCast v11
  let c256 : Index := 256#32
  ![v23.toNat, 256]
def k0_off4 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v28 : Index := Scalar.indexCast v11
  let c384 : Index := 384#32
  ![v28.toNat, 384]
def k0_off5 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v33 : Index := Scalar.indexCast v11
  let c512 : Index := 512#32
  ![v33.toNat, 512]
def k0_off6 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v38 : Index := Scalar.indexCast v11
  let c640 : Index := 640#32
  ![v38.toNat, 640]
def k0_off7 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v43 : Index := Scalar.indexCast v11
  let c768 : Index := 768#32
  ![v43.toNat, 768]
def k0_off8 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v48 : Index := Scalar.indexCast v11
  let c896 : Index := 896#32
  ![v48.toNat, 896]
def k0_off9 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v53 : Index := Scalar.indexCast v11
  let c1024 : Index := 1024#32
  ![v53.toNat, 1024]
def k0_off10 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v58 : Index := Scalar.indexCast v11
  let c1152 : Index := 1152#32
  ![v58.toNat, 1152]
def k0_off11 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v63 : Index := Scalar.indexCast v11
  let c1280 : Index := 1280#32
  ![v63.toNat, 1280]
def k0_off12 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v68 : Index := Scalar.indexCast v11
  let c1408 : Index := 1408#32
  ![v68.toNat, 1408]
def k0_off13 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v73 : Index := Scalar.indexCast v11
  let c1536 : Index := 1536#32
  ![v73.toNat, 1536]
def k0_off14 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v78 : Index := Scalar.indexCast v11
  let c1664 : Index := 1664#32
  ![v78.toNat, 1664]
def k0_off15 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v83 : Index := Scalar.indexCast v11
  let c1792 : Index := 1792#32
  ![v83.toNat, 1792]
def k0_off16 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v88 : Index := Scalar.indexCast v11
  let c1920 : Index := 1920#32
  ![v88.toNat, 1920]
def k0_off17 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v93 : Index := Scalar.indexCast v11
  let c2048 : Index := 2048#32
  ![v93.toNat, 2048]
def k0_off18 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v98 : Index := Scalar.indexCast v11
  let c2176 : Index := 2176#32
  ![v98.toNat, 2176]
def k0_off19 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v103 : Index := Scalar.indexCast v11
  let c2304 : Index := 2304#32
  ![v103.toNat, 2304]
def k0_off20 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v108 : Index := Scalar.indexCast v11
  let c2432 : Index := 2432#32
  ![v108.toNat, 2432]
def k0_off21 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v113 : Index := Scalar.indexCast v11
  let c2560 : Index := 2560#32
  ![v113.toNat, 2560]
def k0_off22 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v118 : Index := Scalar.indexCast v11
  let c2688 : Index := 2688#32
  ![v118.toNat, 2688]
def k0_off23 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v123 : Index := Scalar.indexCast v11
  let c2816 : Index := 2816#32
  ![v123.toNat, 2816]
def k0_off24 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v128 : Index := Scalar.indexCast v11
  let c2944 : Index := 2944#32
  ![v128.toNat, 2944]
def k0_off25 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v133 : Index := Scalar.indexCast v11
  let c3072 : Index := 3072#32
  ![v133.toNat, 3072]
def k0_off26 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v138 : Index := Scalar.indexCast v11
  let c3200 : Index := 3200#32
  ![v138.toNat, 3200]
def k0_off27 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v143 : Index := Scalar.indexCast v11
  let c3328 : Index := 3328#32
  ![v143.toNat, 3328]
def k0_off28 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v148 : Index := Scalar.indexCast v11
  let c3456 : Index := 3456#32
  ![v148.toNat, 3456]
def k0_off29 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v153 : Index := Scalar.indexCast v11
  let c3584 : Index := 3584#32
  ![v153.toNat, 3584]
def k0_off30 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v158 : Index := Scalar.indexCast v11
  let c3712 : Index := 3712#32
  ![v158.toNat, 3712]
def k0_off31 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v163 : Index := Scalar.indexCast v11
  let c3840 : Index := 3840#32
  ![v163.toNat, 3840]
def k0_off32 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v168 : Index := Scalar.indexCast v11
  let c3968 : Index := 3968#32
  ![v168.toNat, 3968]
def k0_off33 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v173 : Index := Scalar.indexCast v11
  let c4096 : Index := 4096#32
  ![v173.toNat, 4096]
def k0_off34 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v178 : Index := Scalar.indexCast v11
  let c4224 : Index := 4224#32
  ![v178.toNat, 4224]
def k0_off35 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v183 : Index := Scalar.indexCast v11
  let c4352 : Index := 4352#32
  ![v183.toNat, 4352]
def k0_off36 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v188 : Index := Scalar.indexCast v11
  let c4480 : Index := 4480#32
  ![v188.toNat, 4480]
def k0_off37 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v193 : Index := Scalar.indexCast v11
  let c4608 : Index := 4608#32
  ![v193.toNat, 4608]
def k0_off38 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v198 : Index := Scalar.indexCast v11
  let c4736 : Index := 4736#32
  ![v198.toNat, 4736]
def k0_off39 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v203 : Index := Scalar.indexCast v11
  let c4864 : Index := 4864#32
  ![v203.toNat, 4864]
def k0_off40 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v208 : Index := Scalar.indexCast v11
  let c4992 : Index := 4992#32
  ![v208.toNat, 4992]
def k0_off41 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v213 : Index := Scalar.indexCast v11
  let c5120 : Index := 5120#32
  ![v213.toNat, 5120]
def k0_off42 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v218 : Index := Scalar.indexCast v11
  let c5248 : Index := 5248#32
  ![v218.toNat, 5248]
def k0_off43 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v223 : Index := Scalar.indexCast v11
  let c5376 : Index := 5376#32
  ![v223.toNat, 5376]
def k0_off44 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v228 : Index := Scalar.indexCast v11
  let c5504 : Index := 5504#32
  ![v228.toNat, 5504]
def k0_off45 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v233 : Index := Scalar.indexCast v11
  let c5632 : Index := 5632#32
  ![v233.toNat, 5632]
def k0_off46 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v238 : Index := Scalar.indexCast v11
  let c5760 : Index := 5760#32
  ![v238.toNat, 5760]
def k0_off47 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v243 : Index := Scalar.indexCast v11
  let c5888 : Index := 5888#32
  ![v243.toNat, 5888]
def k0_off48 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v248 : Index := Scalar.indexCast v11
  let c6016 : Index := 6016#32
  ![v248.toNat, 6016]
def k0_off49 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v253 : Index := Scalar.indexCast v11
  let c6144 : Index := 6144#32
  ![v253.toNat, 6144]
def k0_off50 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v258 : Index := Scalar.indexCast v11
  let c6272 : Index := 6272#32
  ![v258.toNat, 6272]
def k0_off51 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v263 : Index := Scalar.indexCast v11
  let c6400 : Index := 6400#32
  ![v263.toNat, 6400]
def k0_off52 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v268 : Index := Scalar.indexCast v11
  let c6528 : Index := 6528#32
  ![v268.toNat, 6528]
def k0_off53 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v273 : Index := Scalar.indexCast v11
  let c6656 : Index := 6656#32
  ![v273.toNat, 6656]
def k0_off54 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v278 : Index := Scalar.indexCast v11
  let c6784 : Index := 6784#32
  ![v278.toNat, 6784]
def k0_off55 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v283 : Index := Scalar.indexCast v11
  let c6912 : Index := 6912#32
  ![v283.toNat, 6912]
def k0_off56 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v288 : Index := Scalar.indexCast v11
  let c7040 : Index := 7040#32
  ![v288.toNat, 7040]
def k0_off57 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v293 : Index := Scalar.indexCast v11
  let c7168 : Index := 7168#32
  ![v293.toNat, 7168]
def k0_off58 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v298 : Index := Scalar.indexCast v11
  let c7296 : Index := 7296#32
  ![v298.toNat, 7296]
def k0_off59 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v303 : Index := Scalar.indexCast v11
  let c7424 : Index := 7424#32
  ![v303.toNat, 7424]
def k0_off60 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v308 : Index := Scalar.indexCast v11
  let c7552 : Index := 7552#32
  ![v308.toNat, 7552]
def k0_off61 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v313 : Index := Scalar.indexCast v11
  let c7680 : Index := 7680#32
  ![v313.toNat, 7680]
def k0_off62 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v318 : Index := Scalar.indexCast v11
  let c7808 : Index := 7808#32
  ![v318.toNat, 7808]
def k0_off63 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v323 : Index := Scalar.indexCast v11
  let c7936 : Index := 7936#32
  ![v323.toNat, 7936]
def k0_off64 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v328 : Index := Scalar.indexCast v11
  let c8064 : Index := 8064#32
  ![v328.toNat, 8064]
def k0_off65 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c32_i32 : BitVec 32 := 32#32
  let v10 : BitVec 32 := Scalar.muli arg10 c32_i32
  let v11 : BitVec 32 := v10
  let v3414 : Index := Scalar.indexCast v11
  let c0_914 : Index := 0#32
  ![v3414.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S64x73 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefQuantIdeal.lean ====
abbrev S3072x8192 : Shape := ⟨2, ![3072, 8192]⟩
abbrev S1x8192 : Shape := ⟨2, ![1, 8192]⟩
abbrev S8192x9280 : Shape := ⟨2, ![8192, 9280]⟩
abbrev S64x73 : Shape := ⟨2, ![64, 73]⟩
abbrev S3072x64 : Shape := ⟨2, ![3072, 64]⟩
abbrev S3072 : Shape := ⟨1, ![3072]⟩
abbrev S3072x1 : Shape := ⟨2, ![3072, 1]⟩
abbrev S3072x64x128 : Shape := ⟨3, ![3072, 64, 128]⟩
abbrev S8192 : Shape := ⟨1, ![8192]⟩
abbrev S1x64 : Shape := ⟨2, ![1, 64]⟩
abbrev S64 : Shape := ⟨1, ![64]⟩
abbrev S64x1 : Shape := ⟨2, ![64, 1]⟩
abbrev S64x8192 : Shape := ⟨2, ![64, 8192]⟩
abbrev S64x73x1 : Shape := ⟨3, ![64, 73, 1]⟩
abbrev S64x73x128 : Shape := ⟨3, ![64, 73, 128]⟩
abbrev S64x9344 : Shape := ⟨2, ![64, 9344]⟩
abbrev S64x9280 : Shape := ⟨2, ![64, 9280]⟩
abbrev S64x128x9280 : Shape := ⟨3, ![64, 128, 9280]⟩
abbrev S64x1x9280 : Shape := ⟨3, ![64, 1, 9280]⟩
abbrev S3072x9280 : Shape := ⟨2, ![3072, 9280]⟩

abbrev nBuf : Space → Nat
  | .hbm => 8
  | .vmem => 8
  | .smem => 0
  | _ => 0

abbrev bufTy : (tb : Table) → Fin (tcTables nBuf tb) → BufTy
  | .hbm, ⟨0, _⟩ => ⟨S3072x8192, .bf16⟩
  | .hbm, ⟨1, _⟩ => ⟨S1x8192, .bf16⟩
  | .hbm, ⟨2, _⟩ => ⟨S8192x9280, .fp8e4m3⟩
  | .hbm, ⟨3, _⟩ => ⟨S64x73, .f32⟩
  | .hbm, ⟨4, _⟩ => ⟨S3072x8192, .fp8e4m3⟩
  | .hbm, ⟨5, _⟩ => ⟨S3072x64, .f32⟩
  | .hbm, ⟨6, _⟩ => ⟨S3072x8192, .bf16⟩
  | .hbm, ⟨7, _⟩ => ⟨S3072x64, .f32⟩
  | .local _ .vmem, ⟨0, _⟩ => ⟨S3072x8192, .bf16⟩
  | .local _ .vmem, ⟨1, _⟩ => ⟨S1x8192, .bf16⟩
  | .local _ .vmem, ⟨2, _⟩ => ⟨S8192x9280, .fp8e4m3⟩
  | .local _ .vmem, ⟨3, _⟩ => ⟨S64x73, .f32⟩
  | .local _ .vmem, ⟨4, _⟩ => ⟨S3072x8192, .fp8e4m3⟩
  | .local _ .vmem, ⟨5, _⟩ => ⟨S3072x64, .f32⟩
  | .local _ .vmem, ⟨6, _⟩ => ⟨S3072x8192, .bf16⟩
  | .local _ .vmem, ⟨7, _⟩ => ⟨S3072x64, .f32⟩
  | _, _ => ⟨S3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3072x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x9280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x73 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== GemmOut.lean ====
abbrev S3072x4096 : Shape := ⟨2, ![3072, 4096]⟩
abbrev S4096x8192 : Shape := ⟨2, ![4096, 8192]⟩
abbrev S32x64 : Shape := ⟨2, ![32, 64]⟩
abbrev S3072x8192 : Shape := ⟨2, ![3072, 8192]⟩
abbrev S1024x4096 : Shape := ⟨2, ![1024, 4096]⟩
abbrev S4096x512 : Shape := ⟨2, ![4096, 512]⟩
abbrev S1024x512 : Shape := ⟨2, ![1024, 512]⟩
abbrev S1x1 : Shape := ⟨2, ![1, 1]⟩
abbrev S128x128 : Shape := ⟨2, ![128, 128]⟩

abbrev nBuf : Space → Nat
  | .hbm => 5
  | .vmem => 9
  | .smem => 1
  | _ => 0

abbrev bufTy : (tb : Table) → Fin (tcTables nBuf tb) → BufTy
  | .hbm, ⟨0, _⟩ => ⟨S3072x4096, .bf16⟩
  | .hbm, ⟨1, _⟩ => ⟨S4096x8192, .fp8e4m3⟩
  | .hbm, ⟨2, _⟩ => ⟨S32x64, .f32⟩
  | .hbm, ⟨3, _⟩ => ⟨S3072x8192, .bf16⟩
  | .hbm, ⟨4, _⟩ => ⟨S3072x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .fp8e4m3⟩
  | .local _ .vmem, ⟨3, _⟩ => ⟨S4096x512, .fp8e4m3⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S4096x512, .bf16⟩
  | .local _ .smem, ⟨0, _⟩ => ⟨S32x64, .f32⟩
  | _, _ => ⟨S3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![3, 16], ![false, false]⟩

def k0_off1 (i : grid0.Coords) (c0_i32 : BitVec 32) : Fin 2 → Nat :=
  let c0 : Index := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let v2 : Index := Scalar.indexCast v1
  ![0, v2.toNat]
def k0_off2 (i : grid0.Coords) (c0_i32_20 : BitVec 32) : Fin 2 → Nat :=
  let c1 : Index := 1#32
  let arg1 : BitVec 32 := BitVec.ofNat 32 (i 1).val
  let c4_i32_19 : BitVec 32 := 4#32
  let v48 : BitVec 32 := Scalar.muli arg1 c4_i32_19
  let v49 : BitVec 32 := Scalar.addi v48 c0_i32_20
  let v50 : Index := Scalar.indexCast v49
  ![1, v50.toNat]
def k0_off3 (i : grid0.Coords) (c0_i32_47 : BitVec 32) : Fin 2 → Nat :=
  let c2 : Index := 2#32
  let arg1 : BitVec 32 := BitVec.ofNat 32 (i 1).val
  let c4_i32_46 : BitVec 32 := 4#32
  let v96 : BitVec 32 := Scalar.muli arg1 c4_i32_46
  let v97 : BitVec 32 := Scalar.addi v96 c0_i32_47
  let v98 : Index := Scalar.indexCast v97
  ![2, v98.toNat]
def k0_off4 (i : grid0.Coords) (c0_i32_74 : BitVec 32) : Fin 2 → Nat :=
  let c3 : Index := 3#32
  let arg1 : BitVec 32 := BitVec.ofNat 32 (i 1).val
  let c4_i32_73 : BitVec 32 := 4#32
  let v144 : BitVec 32 := Scalar.muli arg1 c4_i32_73
  let v145 : BitVec 32 := Scalar.addi v144 c0_i32_74
  let v146 : Index := Scalar.indexCast v145
  ![3, v146.toNat]
def k0_off5 (i : grid0.Coords) (c0_i32_101 : BitVec 32) : Fin 2 → Nat :=
  let c4 : Index := 4#32
  let arg1 : BitVec 32 := BitVec.ofNat 32 (i 1).val
  let c4_i32_100 : BitVec 32 := 4#32
  let v192 : BitVec 32 := Scalar.muli arg1 c4_i32_100
  let v193 : BitVec 32 := Scalar.addi v192 c0_i32_101
  let v194 : Index := Scalar.indexCast v193
  ![4, v194.toNat]
def k0_off6 (i : grid0.Coords) (c0_i32_127 : BitVec 32) : Fin 2 → Nat :=
  let c5 : Index := 5#32
  let arg1 : BitVec 32 := BitVec.ofNat 32 (i 1).val
  let c4_i32_126 : BitVec 32 := 4#32
  let v240 : BitVec 32 := Scalar.muli arg1 c4_i32_126
  let v241 : BitVec 32 := Scalar.addi v240 c0_i32_127
  let v242 : Index := Scalar.indexCast v241
  ![5, v242.toNat]
def k0_off7 (i : grid0.Coords) (c0_i32_153 : BitVec 32) : Fin 2 → Nat :=
  let c6 : Index := 6#32
  let arg1 : BitVec 32 := BitVec.ofNat 32 (i 1).val
  let c4_i32_152 : BitVec 32 := 4#32
  let v288 : BitVec 32 := Scalar.muli arg1 c4_i32_152
  let v289 : BitVec 32 := Scalar.addi v288 c0_i32_153
  let v290 : Index := Scalar.indexCast v289
  ![6, v290.toNat]
def k0_off8 (i : grid0.Coords) (c0_i32_179 : BitVec 32) : Fin 2 → Nat :=
  let c7 : Index := 7#32
  let arg1 : BitVec 32 := BitVec.ofNat 32 (i 1).val
  let c4_i32_178 : BitVec 32 := 4#32
  let v336 : BitVec 32 := Scalar.muli arg1 c4_i32_178
  let v337 : BitVec 32 := Scalar.addi v336 c0_i32_179
  let v338 : Index := Scalar.indexCast v337
  ![7, v338.toNat]
def k0_off9 (i : grid0.Coords) (c0_i32_205 : BitVec 32) : Fin 2 → Nat :=
  let c8 : Index := 8#32
  let arg1 : BitVec 32 := BitVec.ofNat 32 (i 1).val
  let c4_i32_204 : BitVec 32 := 4#32
  let v384 : BitVec 32 := Scalar.muli arg1 c4_i32_204
  let v385 : BitVec 32 := Scalar.addi v384 c0_i32_205
  let v386 : Index := Scalar.indexCast v385
  ![8, v386.toNat]
def k0_off10 (i : grid0.Coords) (c0_i32_231 : BitVec 32) : Fin 2 → Nat :=
  let c9 : Index := 9#32
  let arg1 : BitVec 32 := BitVec.ofNat 32 (i 1).val
  let c4_i32_230 : BitVec 32 := 4#32
  let v432 : BitVec 32 := Scalar.muli arg1 c4_i32_230
  let v433 : BitVec 32 := Scalar.addi v432 c0_i32_231
  let v434 : Index := Scalar.indexCast v433
  ![9, v434.toNat]
def k0_off11 (i : grid0.Coords) (c0_i32_257 : BitVec 32) : Fin 2 → Nat :=
  let c10 : Index := 10#32
  let arg1 : BitVec 32 := BitVec.ofNat 32 (i 1).val
  let c4_i32_256 : BitVec 32 := 4#32
  let v480 : BitVec 32 := Scalar.muli arg1 c4_i32_256
  let v481 : BitVec 32 := Scalar.addi v480 c0_i32_257
  let v482 : Index := Scalar.indexCast v481
  ![10, v482.toNat]
def k0_off12 (i : grid0.Coords) (c0_i32_283 : BitVec 32) : Fin 2 → Nat :=
  let c11 : Index := 11#32
  let arg1 : BitVec 32 := BitVec.ofNat 32 (i 1).val
  let c4_i32_282 : BitVec 32 := 4#32
  let v528 : BitVec 32 := Scalar.muli arg1 c4_i32_282
  let v529 : BitVec 32 := Scalar.addi v528 c0_i32_283
  let v530 : Index := Scalar.indexCast v529
  ![11, v530.toNat]
def k0_off13 (i : grid0.Coords) (c0_i32_309 : BitVec 32) : Fin 2 → Nat :=
  let c12 : Index := 12#32
  let arg1 : BitVec 32 := BitVec.ofNat 32 (i 1).val
  let c4_i32_308 : BitVec 32 := 4#32
  let v576 : BitVec 32 := Scalar.muli arg1 c4_i32_308
  let v577 : BitVec 32 := Scalar.addi v576 c0_i32_309
  let v578 : Index := Scalar.indexCast v577
  ![12, v578.toNat]
def k0_off14 (i : grid0.Coords) (c0_i32_335 : BitVec 32) : Fin 2 → Nat :=
  let c13 : Index := 13#32
  let arg1 : BitVec 32 := BitVec.ofNat 32 (i 1).val
  let c4_i32_334 : BitVec 32 := 4#32
  let v624 : BitVec 32 := Scalar.muli arg1 c4_i32_334
  let v625 : BitVec 32 := Scalar.addi v624 c0_i32_335
  let v626 : Index := Scalar.indexCast v625
  ![13, v626.toNat]
def k0_off15 (i : grid0.Coords) (c0_i32_361 : BitVec 32) : Fin 2 → Nat :=
  let c14 : Index := 14#32
  let arg1 : BitVec 32 := BitVec.ofNat 32 (i 1).val
  let c4_i32_360 : BitVec 32 := 4#32
  let v672 : BitVec 32 := Scalar.muli arg1 c4_i32_360
  let v673 : BitVec 32 := Scalar.addi v672 c0_i32_361
  let v674 : Index := Scalar.indexCast v673
  ![14, v674.toNat]
def k0_off16 (i : grid0.Coords) (c0_i32_387 : BitVec 32) : Fin 2 → Nat :=
  let c15 : Index := 15#32
  let arg1 : BitVec 32 := BitVec.ofNat 32 (i 1).val
  let c4_i32_386 : BitVec 32 := 4#32
  let v720 : BitVec 32 := Scalar.muli arg1 c4_i32_386
  let v721 : BitVec 32 := Scalar.addi v720 c0_i32_387
  let v722 : Index := Scalar.indexCast v721
  ![15, v722.toNat]
def k0_off17 (i : grid0.Coords) (c0_i32_413 : BitVec 32) : Fin 2 → Nat :=
  let c16 : Index := 16#32
  let arg1 : BitVec 32 := BitVec.ofNat 32 (i 1).val
  let c4_i32_412 : BitVec 32 := 4#32
  let v768 : BitVec 32 := Scalar.muli arg1 c4_i32_412
  let v769 : BitVec 32 := Scalar.addi v768 c0_i32_413
  let v770 : Index := Scalar.indexCast v769
  ![16, v770.toNat]
def k0_off18 (i : grid0.Coords) (c0_i32_439 : BitVec 32) : Fin 2 → Nat :=
  let c17 : Index := 17#32
  let arg1 : BitVec 32 := BitVec.ofNat 32 (i 1).val
  let c4_i32_438 : BitVec 32 := 4#32
  let v816 : BitVec 32 := Scalar.muli arg1 c4_i32_438
  let v817 : BitVec 32 := Scalar.addi v816 c0_i32_439
  let v818 : Index := Scalar.indexCast v817
  ![17, v818.toNat]
def k0_off19 (i : grid0.Coords) (c0_i32_465 : BitVec 32) : Fin 2 → Nat :=
  let c18 : Index := 18#32
  let arg1 : BitVec 32 := BitVec.ofNat 32 (i 1).val
  let c4_i32_464 : BitVec 32 := 4#32
  let v864 : BitVec 32 := Scalar.muli arg1 c4_i32_464
  let v865 : BitVec 32 := Scalar.addi v864 c0_i32_465
  let v866 : Index := Scalar.indexCast v865
  ![18, v866.toNat]
def k0_off20 (i : grid0.Coords) (c0_i32_491 : BitVec 32) : Fin 2 → Nat :=
  let c19 : Index := 19#32
  let arg1 : BitVec 32 := BitVec.ofNat 32 (i 1).val
  let c4_i32_490 : BitVec 32 := 4#32
  let v912 : BitVec 32 := Scalar.muli arg1 c4_i32_490
  let v913 : BitVec 32 := Scalar.addi v912 c0_i32_491
  let v914 : Index := Scalar.indexCast v913
  ![19, v914.toNat]
def k0_off21 (i : grid0.Coords) (c0_i32_517 : BitVec 32) : Fin 2 → Nat :=
  let c20 : Index := 20#32
  let arg1 : BitVec 32 := BitVec.ofNat 32 (i 1).val
  let c4_i32_516 : BitVec 32 := 4#32
  let v960 : BitVec 32 := Scalar.muli arg1 c4_i32_516
  let v961 : BitVec 32 := Scalar.addi v960 c0_i32_517
  let v962 : Index := Scalar.indexCast v961
  ![20, v962.toNat]
def k0_off22 (i : grid0.Coords) (c0_i32_543 : BitVec 32) : Fin 2 → Nat :=
  let c21 : Index := 21#32
  let arg1 : BitVec 32 := BitVec.ofNat 32 (i 1).val
  let c4_i32_542 : BitVec 32 := 4#32
  let v1008 : BitVec 32 := Scalar.muli arg1 c4_i32_542
  let v1009 : BitVec 32 := Scalar.addi v1008 c0_i32_543
  let v1010 : Index := Scalar.indexCast v1009
  ![21, v1010.toNat]
def k0_off23 (i : grid0.Coords) (c0_i32_569 : BitVec 32) : Fin 2 → Nat :=
  let c22 : Index := 22#32
  let arg1 : BitVec 32 := BitVec.ofNat 32 (i 1).val
  let c4_i32_568 : BitVec 32 := 4#32
  let v1056 : BitVec 32 := Scalar.muli arg1 c4_i32_568
  let v1057 : BitVec 32 := Scalar.addi v1056 c0_i32_569
  let v1058 : Index := Scalar.indexCast v1057
  ![22, v1058.toNat]
def k0_off24 (i : grid0.Coords) (c0_i32_595 : BitVec 32) : Fin 2 → Nat :=
  let c23 : Index := 23#32
  let arg1 : BitVec 32 := BitVec.ofNat 32 (i 1).val
  let c4_i32_594 : BitVec 32 := 4#32
  let v1104 : BitVec 32 := Scalar.muli arg1 c4_i32_594
  let v1105 : BitVec 32 := Scalar.addi v1104 c0_i32_595
  let v1106 : Index := Scalar.indexCast v1105
  ![23, v1106.toNat]
def k0_off25 (i : grid0.Coords) (c0_i32_621 : BitVec 32) : Fin 2 → Nat :=
  let c24 : Index := 24#32
  let arg1 : BitVec 32 := BitVec.ofNat 32 (i 1).val
  let c4_i32_620 : BitVec 32 := 4#32
  let v1152 : BitVec 32 := Scalar.muli arg1 c4_i32_620
  let v1153 : BitVec 32 := Scalar.addi v1152 c0_i32_621
  let v1154 : Index := Scalar.indexCast v1153
  ![24, v1154.toNat]
def k0_off26 (i : grid0.Coords) (c0_i32_647 : BitVec 32) : Fin 2 → Nat :=
  let c25 : Index := 25#32
  let arg1 : BitVec 32 := BitVec.ofNat 32 (i 1).val
  let c4_i32_646 : BitVec 32 := 4#32
  let v1200 : BitVec 32 := Scalar.muli arg1 c4_i32_646
  let v1201 : BitVec 32 := Scalar.addi v1200 c0_i32_647
  let v1202 : Index := Scalar.indexCast v1201
  ![25, v1202.toNat]
def k0_off27 (i : grid0.Coords) (c0_i32_673 : BitVec 32) : Fin 2 → Nat :=
  let c26 : Index := 26#32
  let arg1 : BitVec 32 := BitVec.ofNat 32 (i 1).val
  let c4_i32_672 : BitVec 32 := 4#32
  let v1248 : BitVec 32 := Scalar.muli arg1 c4_i32_672
  let v1249 : BitVec 32 := Scalar.addi v1248 c0_i32_673
  let v1250 : Index := Scalar.indexCast v1249
  ![26, v1250.toNat]
def k0_off28 (i : grid0.Coords) (c0_i32_699 : BitVec 32) : Fin 2 → Nat :=
  let c27 : Index := 27#32
  let arg1 : BitVec 32 := BitVec.ofNat 32 (i 1).val
  let c4_i32_698 : BitVec 32 := 4#32
  let v1296 : BitVec 32 := Scalar.muli arg1 c4_i32_698
  let v1297 : BitVec 32 := Scalar.addi v1296 c0_i32_699
  let v1298 : Index := Scalar.indexCast v1297
  ![27, v1298.toNat]
def k0_off29 (i : grid0.Coords) (c0_i32_725 : BitVec 32) : Fin 2 → Nat :=
  let c28 : Index := 28#32
  let arg1 : BitVec 32 := BitVec.ofNat 32 (i 1).val
  let c4_i32_724 : BitVec 32 := 4#32
  let v1344 : BitVec 32 := Scalar.muli arg1 c4_i32_724
  let v1345 : BitVec 32 := Scalar.addi v1344 c0_i32_725
  let v1346 : Index := Scalar.indexCast v1345
  ![28, v1346.toNat]
def k0_off30 (i : grid0.Coords) (c0_i32_751 : BitVec 32) : Fin 2 → Nat :=
  let c29 : Index := 29#32
  let arg1 : BitVec 32 := BitVec.ofNat 32 (i 1).val
  let c4_i32_750 : BitVec 32 := 4#32
  let v1392 : BitVec 32 := Scalar.muli arg1 c4_i32_750
  let v1393 : BitVec 32 := Scalar.addi v1392 c0_i32_751
  let v1394 : Index := Scalar.indexCast v1393
  ![29, v1394.toNat]
def k0_off31 (i : grid0.Coords) (c0_i32_777 : BitVec 32) : Fin 2 → Nat :=
  let c30 : Index := 30#32
  let arg1 : BitVec 32 := BitVec.ofNat 32 (i 1).val
  let c4_i32_776 : BitVec 32 := 4#32
  let v1440 : BitVec 32 := Scalar.muli arg1 c4_i32_776
  let v1441 : BitVec 32 := Scalar.addi v1440 c0_i32_777
  let v1442 : Index := Scalar.indexCast v1441
  ![30, v1442.toNat]
def k0_off32 (i : grid0.Coords) (c0_i32_803 : BitVec 32) : Fin 2 → Nat :=
  let c31 : Index := 31#32
  let arg1 : BitVec 32 := BitVec.ofNat 32 (i 1).val
  let c4_i32_802 : BitVec 32 := 4#32
  let v1488 : BitVec 32 := Scalar.muli arg1 c4_i32_802
  let v1489 : BitVec 32 := Scalar.addi v1488 c0_i32_803
  let v1490 : Index := Scalar.indexCast v1489
  ![31, v1490.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .smem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefOutIdeal.lean ====
abbrev S3072x4096 : Shape := ⟨2, ![3072, 4096]⟩
abbrev S4096x8192 : Shape := ⟨2, ![4096, 8192]⟩
abbrev S32x64 : Shape := ⟨2, ![32, 64]⟩
abbrev S3072x8192 : Shape := ⟨2, ![3072, 8192]⟩
abbrev S32x64x1 : Shape := ⟨3, ![32, 64, 1]⟩
abbrev S32x64x128 : Shape := ⟨3, ![32, 64, 128]⟩
abbrev S32x8192 : Shape := ⟨2, ![32, 8192]⟩
abbrev S32x128x8192 : Shape := ⟨3, ![32, 128, 8192]⟩
abbrev S32x1x8192 : Shape := ⟨3, ![32, 1, 8192]⟩

abbrev nBuf : Space → Nat
  | .hbm => 5
  | .vmem => 5
  | .smem => 0
  | _ => 0

abbrev bufTy : (tb : Table) → Fin (tcTables nBuf tb) → BufTy
  | .hbm, ⟨0, _⟩ => ⟨S3072x4096, .bf16⟩
  | .hbm, ⟨1, _⟩ => ⟨S4096x8192, .fp8e4m3⟩
  | .hbm, ⟨2, _⟩ => ⟨S32x64, .f32⟩
  | .hbm, ⟨3, _⟩ => ⟨S3072x8192, .bf16⟩
  | .hbm, ⟨4, _⟩ => ⟨S3072x8192, .bf16⟩
  | .local _ .vmem, ⟨0, _⟩ => ⟨S3072x4096, .bf16⟩
  | .local _ .vmem, ⟨1, _⟩ => ⟨S4096x8192, .fp8e4m3⟩
  | .local _ .vmem, ⟨2, _⟩ => ⟨S32x64, .f32⟩
  | .local _ .vmem, ⟨3, _⟩ => ⟨S3072x8192, .bf16⟩
  | .local _ .vmem, ⟨4, _⟩ => ⟨S3072x8192, .bf16⟩
  | _, _ => ⟨S3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3072x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== GemmIn.lean ====
abbrev S3072x8192 : Shape := ⟨2, ![3072, 8192]⟩
abbrev S8192x9280 : Shape := ⟨2, ![8192, 9280]⟩
abbrev S64x73 : Shape := ⟨2, ![64, 73]⟩
abbrev S3072x9216 : Shape := ⟨2, ![3072, 9216]⟩
abbrev S512x8192 : Shape := ⟨2, ![512, 8192]⟩
abbrev S8192x512 : Shape := ⟨2, ![8192, 512]⟩
abbrev S512x512 : Shape := ⟨2, ![512, 512]⟩
abbrev S1x1 : Shape := ⟨2, ![1, 1]⟩
abbrev S128x128 : Shape := ⟨2, ![128, 128]⟩

abbrev nBuf : Space → Nat
  | .hbm => 4
  | .vmem => 7
  | .smem => 1
  | _ => 0

abbrev bufTy : (tb : Table) → Fin (tcTables nBuf tb) → BufTy
  | .hbm, ⟨0, _⟩ => ⟨S3072x8192, .bf16⟩
  | .hbm, ⟨1, _⟩ => ⟨S8192x9280, .fp8e4m3⟩
  | .hbm, ⟨2, _⟩ => ⟨S64x73, .f32⟩
  | .hbm, ⟨3, _⟩ => ⟨S3072x9216, .f32⟩
  | .local _ .vmem, ⟨0, _⟩ => ⟨S512x8192, .bf16⟩
  | .local _ .vmem, ⟨1, _⟩ => ⟨S512x8192, .bf16⟩
  | .local _ .vmem, ⟨2, _⟩ => ⟨S8192x512, .fp8e4m3⟩
  | .local _ .vmem, ⟨3, _⟩ => ⟨S8192x512, .fp8e4m3⟩
  | .local _ .vmem, ⟨4, _⟩ => ⟨S512x512, .f32⟩
  | .local _ .vmem, ⟨5, _⟩ => ⟨S512x512, .f32⟩
  | .local _ .vmem, ⟨6, _⟩ => ⟨S8192x512, .bf16⟩
  | .local _ .smem, ⟨0, _⟩ => ⟨S64x73, .f32⟩
  | _, _ => ⟨S3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![6, 18], ![false, false]⟩

def k0_off1 (i : grid0.Coords) (c0_i32 : BitVec 32) : Fin 2 → Nat :=
  let c0 : Index := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let v2 : Index := Scalar.indexCast v1
  ![0, v2.toNat]
def k0_off2 (i : grid0.Coords) (c0_i32_20 : BitVec 32) : Fin 2 → Nat :=
  let c1 : Index := 1#32
  let arg1 : BitVec 32 := BitVec.ofNat 32 (i 1).val
  let c4_i32_19 : BitVec 32 := 4#32
  let v48 : BitVec 32 := Scalar.muli arg1 c4_i32_19
  let v49 : BitVec 32 := Scalar.addi v48 c0_i32_20
  let v50 : Index := Scalar.indexCast v49
  ![1, v50.toNat]
def k0_off3 (i : grid0.Coords) (c0_i32_47 : BitVec 32) : Fin 2 → Nat :=
  let c2 : Index := 2#32
  let arg1 : BitVec 32 := BitVec.ofNat 32 (i 1).val
  let c4_i32_46 : BitVec 32 := 4#32
  let v96 : BitVec 32 := Scalar.muli arg1 c4_i32_46
  let v97 : BitVec 32 := Scalar.addi v96 c0_i32_47
  let v98 : Index := Scalar.indexCast v97
  ![2, v98.toNat]
def k0_off4 (i : grid0.Coords) (c0_i32_74 : BitVec 32) : Fin 2 → Nat :=
  let c3 : Index := 3#32
  let arg1 : BitVec 32 := BitVec.ofNat 32 (i 1).val
  let c4_i32_73 : BitVec 32 := 4#32
  let v144 : BitVec 32 := Scalar.muli arg1 c4_i32_73
  let v145 : BitVec 32 := Scalar.addi v144 c0_i32_74
  let v146 : Index := Scalar.indexCast v145
  ![3, v146.toNat]
def k0_off5 (i : grid0.Coords) (c0_i32_101 : BitVec 32) : Fin 2 → Nat :=
  let c4 : Index := 4#32
  let arg1 : BitVec 32 := BitVec.ofNat 32 (i 1).val
  let c4_i32_100 : BitVec 32 := 4#32
  let v192 : BitVec 32 := Scalar.muli arg1 c4_i32_100
  let v193 : BitVec 32 := Scalar.addi v192 c0_i32_101
  let v194 : Index := Scalar.indexCast v193
  ![4, v194.toNat]
def k0_off6 (i : grid0.Coords) (c0_i32_127 : BitVec 32) : Fin 2 → Nat :=
  let c5 : Index := 5#32
  let arg1 : BitVec 32 := BitVec.ofNat 32 (i 1).val
  let c4_i32_126 : BitVec 32 := 4#32
  let v240 : BitVec 32 := Scalar.muli arg1 c4_i32_126
  let v241 : BitVec 32 := Scalar.addi v240 c0_i32_127
  let v242 : Index := Scalar.indexCast v241
  ![5, v242.toNat]
def k0_off7 (i : grid0.Coords) (c0_i32_153 : BitVec 32) : Fin 2 → Nat :=
  let c6 : Index := 6#32
  let arg1 : BitVec 32 := BitVec.ofNat 32 (i 1).val
  let c4_i32_152 : BitVec 32 := 4#32
  let v288 : BitVec 32 := Scalar.muli arg1 c4_i32_152
  let v289 : BitVec 32 := Scalar.addi v288 c0_i32_153
  let v290 : Index := Scalar.indexCast v289
  ![6, v290.toNat]
def k0_off8 (i : grid0.Coords) (c0_i32_179 : BitVec 32) : Fin 2 → Nat :=
  let c7 : Index := 7#32
  let arg1 : BitVec 32 := BitVec.ofNat 32 (i 1).val
  let c4_i32_178 : BitVec 32 := 4#32
  let v336 : BitVec 32 := Scalar.muli arg1 c4_i32_178
  let v337 : BitVec 32 := Scalar.addi v336 c0_i32_179
  let v338 : Index := Scalar.indexCast v337
  ![7, v338.toNat]
def k0_off9 (i : grid0.Coords) (c0_i32_205 : BitVec 32) : Fin 2 → Nat :=
  let c8 : Index := 8#32
  let arg1 : BitVec 32 := BitVec.ofNat 32 (i 1).val
  let c4_i32_204 : BitVec 32 := 4#32
  let v384 : BitVec 32 := Scalar.muli arg1 c4_i32_204
  let v385 : BitVec 32 := Scalar.addi v384 c0_i32_205
  let v386 : Index := Scalar.indexCast v385
  ![8, v386.toNat]
def k0_off10 (i : grid0.Coords) (c0_i32_231 : BitVec 32) : Fin 2 → Nat :=
  let c9 : Index := 9#32
  let arg1 : BitVec 32 := BitVec.ofNat 32 (i 1).val
  let c4_i32_230 : BitVec 32 := 4#32
  let v432 : BitVec 32 := Scalar.muli arg1 c4_i32_230
  let v433 : BitVec 32 := Scalar.addi v432 c0_i32_231
  let v434 : Index := Scalar.indexCast v433
  ![9, v434.toNat]
def k0_off11 (i : grid0.Coords) (c0_i32_257 : BitVec 32) : Fin 2 → Nat :=
  let c10 : Index := 10#32
  let arg1 : BitVec 32 := BitVec.ofNat 32 (i 1).val
  let c4_i32_256 : BitVec 32 := 4#32
  let v480 : BitVec 32 := Scalar.muli arg1 c4_i32_256
  let v481 : BitVec 32 := Scalar.addi v480 c0_i32_257
  let v482 : Index := Scalar.indexCast v481
  ![10, v482.toNat]
def k0_off12 (i : grid0.Coords) (c0_i32_283 : BitVec 32) : Fin 2 → Nat :=
  let c11 : Index := 11#32
  let arg1 : BitVec 32 := BitVec.ofNat 32 (i 1).val
  let c4_i32_282 : BitVec 32 := 4#32
  let v528 : BitVec 32 := Scalar.muli arg1 c4_i32_282
  let v529 : BitVec 32 := Scalar.addi v528 c0_i32_283
  let v530 : Index := Scalar.indexCast v529
  ![11, v530.toNat]
def k0_off13 (i : grid0.Coords) (c0_i32_309 : BitVec 32) : Fin 2 → Nat :=
  let c12 : Index := 12#32
  let arg1 : BitVec 32 := BitVec.ofNat 32 (i 1).val
  let c4_i32_308 : BitVec 32 := 4#32
  let v576 : BitVec 32 := Scalar.muli arg1 c4_i32_308
  let v577 : BitVec 32 := Scalar.addi v576 c0_i32_309
  let v578 : Index := Scalar.indexCast v577
  ![12, v578.toNat]
def k0_off14 (i : grid0.Coords) (c0_i32_335 : BitVec 32) : Fin 2 → Nat :=
  let c13 : Index := 13#32
  let arg1 : BitVec 32 := BitVec.ofNat 32 (i 1).val
  let c4_i32_334 : BitVec 32 := 4#32
  let v624 : BitVec 32 := Scalar.muli arg1 c4_i32_334
  let v625 : BitVec 32 := Scalar.addi v624 c0_i32_335
  let v626 : Index := Scalar.indexCast v625
  ![13, v626.toNat]
def k0_off15 (i : grid0.Coords) (c0_i32_361 : BitVec 32) : Fin 2 → Nat :=
  let c14 : Index := 14#32
  let arg1 : BitVec 32 := BitVec.ofNat 32 (i 1).val
  let c4_i32_360 : BitVec 32 := 4#32
  let v672 : BitVec 32 := Scalar.muli arg1 c4_i32_360
  let v673 : BitVec 32 := Scalar.addi v672 c0_i32_361
  let v674 : Index := Scalar.indexCast v673
  ![14, v674.toNat]
def k0_off16 (i : grid0.Coords) (c0_i32_387 : BitVec 32) : Fin 2 → Nat :=
  let c15 : Index := 15#32
  let arg1 : BitVec 32 := BitVec.ofNat 32 (i 1).val
  let c4_i32_386 : BitVec 32 := 4#32
  let v720 : BitVec 32 := Scalar.muli arg1 c4_i32_386
  let v721 : BitVec 32 := Scalar.addi v720 c0_i32_387
  let v722 : Index := Scalar.indexCast v721
  ![15, v722.toNat]
def k0_off17 (i : grid0.Coords) (c0_i32_413 : BitVec 32) : Fin 2 → Nat :=
  let c16 : Index := 16#32
  let arg1 : BitVec 32 := BitVec.ofNat 32 (i 1).val
  let c4_i32_412 : BitVec 32 := 4#32
  let v768 : BitVec 32 := Scalar.muli arg1 c4_i32_412
  let v769 : BitVec 32 := Scalar.addi v768 c0_i32_413
  let v770 : Index := Scalar.indexCast v769
  ![16, v770.toNat]
def k0_off18 (i : grid0.Coords) (c0_i32_439 : BitVec 32) : Fin 2 → Nat :=
  let c17 : Index := 17#32
  let arg1 : BitVec 32 := BitVec.ofNat 32 (i 1).val
  let c4_i32_438 : BitVec 32 := 4#32
  let v816 : BitVec 32 := Scalar.muli arg1 c4_i32_438
  let v817 : BitVec 32 := Scalar.addi v816 c0_i32_439
  let v818 : Index := Scalar.indexCast v817
  ![17, v818.toNat]
def k0_off19 (i : grid0.Coords) (c0_i32_465 : BitVec 32) : Fin 2 → Nat :=
  let c18 : Index := 18#32
  let arg1 : BitVec 32 := BitVec.ofNat 32 (i 1).val
  let c4_i32_464 : BitVec 32 := 4#32
  let v864 : BitVec 32 := Scalar.muli arg1 c4_i32_464
  let v865 : BitVec 32 := Scalar.addi v864 c0_i32_465
  let v866 : Index := Scalar.indexCast v865
  ![18, v866.toNat]
def k0_off20 (i : grid0.Coords) (c0_i32_491 : BitVec 32) : Fin 2 → Nat :=
  let c19 : Index := 19#32
  let arg1 : BitVec 32 := BitVec.ofNat 32 (i 1).val
  let c4_i32_490 : BitVec 32 := 4#32
  let v912 : BitVec 32 := Scalar.muli arg1 c4_i32_490
  let v913 : BitVec 32 := Scalar.addi v912 c0_i32_491
  let v914 : Index := Scalar.indexCast v913
  ![19, v914.toNat]
def k0_off21 (i : grid0.Coords) (c0_i32_517 : BitVec 32) : Fin 2 → Nat :=
  let c20 : Index := 20#32
  let arg1 : BitVec 32 := BitVec.ofNat 32 (i 1).val
  let c4_i32_516 : BitVec 32 := 4#32
  let v960 : BitVec 32 := Scalar.muli arg1 c4_i32_516
  let v961 : BitVec 32 := Scalar.addi v960 c0_i32_517
  let v962 : Index := Scalar.indexCast v961
  ![20, v962.toNat]
def k0_off22 (i : grid0.Coords) (c0_i32_543 : BitVec 32) : Fin 2 → Nat :=
  let c21 : Index := 21#32
  let arg1 : BitVec 32 := BitVec.ofNat 32 (i 1).val
  let c4_i32_542 : BitVec 32 := 4#32
  let v1008 : BitVec 32 := Scalar.muli arg1 c4_i32_542
  let v1009 : BitVec 32 := Scalar.addi v1008 c0_i32_543
  let v1010 : Index := Scalar.indexCast v1009
  ![21, v1010.toNat]
def k0_off23 (i : grid0.Coords) (c0_i32_569 : BitVec 32) : Fin 2 → Nat :=
  let c22 : Index := 22#32
  let arg1 : BitVec 32 := BitVec.ofNat 32 (i 1).val
  let c4_i32_568 : BitVec 32 := 4#32
  let v1056 : BitVec 32 := Scalar.muli arg1 c4_i32_568
  let v1057 : BitVec 32 := Scalar.addi v1056 c0_i32_569
  let v1058 : Index := Scalar.indexCast v1057
  ![22, v1058.toNat]
def k0_off24 (i : grid0.Coords) (c0_i32_595 : BitVec 32) : Fin 2 → Nat :=
  let c23 : Index := 23#32
  let arg1 : BitVec 32 := BitVec.ofNat 32 (i 1).val
  let c4_i32_594 : BitVec 32 := 4#32
  let v1104 : BitVec 32 := Scalar.muli arg1 c4_i32_594
  let v1105 : BitVec 32 := Scalar.addi v1104 c0_i32_595
  let v1106 : Index := Scalar.indexCast v1105
  ![23, v1106.toNat]
def k0_off25 (i : grid0.Coords) (c0_i32_621 : BitVec 32) : Fin 2 → Nat :=
  let c24 : Index := 24#32
  let arg1 : BitVec 32 := BitVec.ofNat 32 (i 1).val
  let c4_i32_620 : BitVec 32 := 4#32
  let v1152 : BitVec 32 := Scalar.muli arg1 c4_i32_620
  let v1153 : BitVec 32 := Scalar.addi v1152 c0_i32_621
  let v1154 : Index := Scalar.indexCast v1153
  ![24, v1154.toNat]
def k0_off26 (i : grid0.Coords) (c0_i32_647 : BitVec 32) : Fin 2 → Nat :=
  let c25 : Index := 25#32
  let arg1 : BitVec 32 := BitVec.ofNat 32 (i 1).val
  let c4_i32_646 : BitVec 32 := 4#32
  let v1200 : BitVec 32 := Scalar.muli arg1 c4_i32_646
  let v1201 : BitVec 32 := Scalar.addi v1200 c0_i32_647
  let v1202 : Index := Scalar.indexCast v1201
  ![25, v1202.toNat]
def k0_off27 (i : grid0.Coords) (c0_i32_673 : BitVec 32) : Fin 2 → Nat :=
  let c26 : Index := 26#32
  let arg1 : BitVec 32 := BitVec.ofNat 32 (i 1).val
  let c4_i32_672 : BitVec 32 := 4#32
  let v1248 : BitVec 32 := Scalar.muli arg1 c4_i32_672
  let v1249 : BitVec 32 := Scalar.addi v1248 c0_i32_673
  let v1250 : Index := Scalar.indexCast v1249
  ![26, v1250.toNat]
def k0_off28 (i : grid0.Coords) (c0_i32_699 : BitVec 32) : Fin 2 → Nat :=
  let c27 : Index := 27#32
  let arg1 : BitVec 32 := BitVec.ofNat 32 (i 1).val
  let c4_i32_698 : BitVec 32 := 4#32
  let v1296 : BitVec 32 := Scalar.muli arg1 c4_i32_698
  let v1297 : BitVec 32 := Scalar.addi v1296 c0_i32_699
  let v1298 : Index := Scalar.indexCast v1297
  ![27, v1298.toNat]
def k0_off29 (i : grid0.Coords) (c0_i32_725 : BitVec 32) : Fin 2 → Nat :=
  let c28 : Index := 28#32
  let arg1 : BitVec 32 := BitVec.ofNat 32 (i 1).val
  let c4_i32_724 : BitVec 32 := 4#32
  let v1344 : BitVec 32 := Scalar.muli arg1 c4_i32_724
  let v1345 : BitVec 32 := Scalar.addi v1344 c0_i32_725
  let v1346 : Index := Scalar.indexCast v1345
  ![28, v1346.toNat]
def k0_off30 (i : grid0.Coords) (c0_i32_751 : BitVec 32) : Fin 2 → Nat :=
  let c29 : Index := 29#32
  let arg1 : BitVec 32 := BitVec.ofNat 32 (i 1).val
  let c4_i32_750 : BitVec 32 := 4#32
  let v1392 : BitVec 32 := Scalar.muli arg1 c4_i32_750
  let v1393 : BitVec 32 := Scalar.addi v1392 c0_i32_751
  let v1394 : Index := Scalar.indexCast v1393
  ![29, v1394.toNat]
def k0_off31 (i : grid0.Coords) (c0_i32_777 : BitVec 32) : Fin 2 → Nat :=
  let c30 : Index := 30#32
  let arg1 : BitVec 32 := BitVec.ofNat 32 (i 1).val
  let c4_i32_776 : BitVec 32 := 4#32
  let v1440 : BitVec 32 := Scalar.muli arg1 c4_i32_776
  let v1441 : BitVec 32 := Scalar.addi v1440 c0_i32_777
  let v1442 : Index := Scalar.indexCast v1441
  ![30, v1442.toNat]
def k0_off32 (i : grid0.Coords) (c0_i32_803 : BitVec 32) : Fin 2 → Nat :=
  let c31 : Index := 31#32
  let arg1 : BitVec 32 := BitVec.ofNat 32 (i 1).val
  let c4_i32_802 : BitVec 32 := 4#32
  let v1488 : BitVec 32 := Scalar.muli arg1 c4_i32_802
  let v1489 : BitVec 32 := Scalar.addi v1488 c0_i32_803
  let v1490 : Index := Scalar.indexCast v1489
  ![31, v1490.toNat]
def k0_off33 (i : grid0.Coords) (c0_i32_829 : BitVec 32) : Fin 2 → Nat :=
  let c32 : Index := 32#32
  let arg1 : BitVec 32 := BitVec.ofNat 32 (i 1).val
  let c4_i32_828 : BitVec 32 := 4#32
  let v1536 : BitVec 32 := Scalar.muli arg1 c4_i32_828
  let v1537 : BitVec 32 := Scalar.addi v1536 c0_i32_829
  let v1538 : Index := Scalar.indexCast v1537
  ![32, v1538.toNat]
def k0_off34 (i : grid0.Coords) (c0_i32_855 : BitVec 32) : Fin 2 → Nat :=
  let c33 : Index := 33#32
  let arg1 : BitVec 32 := BitVec.ofNat 32 (i 1).val
  let c4_i32_854 : BitVec 32 := 4#32
  let v1584 : BitVec 32 := Scalar.muli arg1 c4_i32_854
  let v1585 : BitVec 32 := Scalar.addi v1584 c0_i32_855
  let v1586 : Index := Scalar.indexCast v1585
  ![33, v1586.toNat]
def k0_off35 (i : grid0.Coords) (c0_i32_881 : BitVec 32) : Fin 2 → Nat :=
  let c34 : Index := 34#32
  let arg1 : BitVec 32 := BitVec.ofNat 32 (i 1).val
  let c4_i32_880 : BitVec 32 := 4#32
  let v1632 : BitVec 32 := Scalar.muli arg1 c4_i32_880
  let v1633 : BitVec 32 := Scalar.addi v1632 c0_i32_881
  let v1634 : Index := Scalar.indexCast v1633
  ![34, v1634.toNat]
def k0_off36 (i : grid0.Coords) (c0_i32_907 : BitVec 32) : Fin 2 → Nat :=
  let c35 : Index := 35#32
  let arg1 : BitVec 32 := BitVec.ofNat 32 (i 1).val
  let c4_i32_906 : BitVec 32 := 4#32
  let v1680 : BitVec 32 := Scalar.muli arg1 c4_i32_906
  let v1681 : BitVec 32 := Scalar.addi v1680 c0_i32_907
  let v1682 : Index := Scalar.indexCast v1681
  ![35, v1682.toNat]
def k0_off37 (i : grid0.Coords) (c0_i32_933 : BitVec 32) : Fin 2 → Nat :=
  let c36 : Index := 36#32
  let arg1 : BitVec 32 := BitVec.ofNat 32 (i 1).val
  let c4_i32_932 : BitVec 32 := 4#32
  let v1728 : BitVec 32 := Scalar.muli arg1 c4_i32_932
  let v1729 : BitVec 32 := Scalar.addi v1728 c0_i32_933
  let v1730 : Index := Scalar.indexCast v1729
  ![36, v1730.toNat]
def k0_off38 (i : grid0.Coords) (c0_i32_959 : BitVec 32) : Fin 2 → Nat :=
  let c37 : Index := 37#32
  let arg1 : BitVec 32 := BitVec.ofNat 32 (i 1).val
  let c4_i32_958 : BitVec 32 := 4#32
  let v1776 : BitVec 32 := Scalar.muli arg1 c4_i32_958
  let v1777 : BitVec 32 := Scalar.addi v1776 c0_i32_959
  let v1778 : Index := Scalar.indexCast v1777
  ![37, v1778.toNat]
def k0_off39 (i : grid0.Coords) (c0_i32_985 : BitVec 32) : Fin 2 → Nat :=
  let c38 : Index := 38#32
  let arg1 : BitVec 32 := BitVec.ofNat 32 (i 1).val
  let c4_i32_984 : BitVec 32 := 4#32
  let v1824 : BitVec 32 := Scalar.muli arg1 c4_i32_984
  let v1825 : BitVec 32 := Scalar.addi v1824 c0_i32_985
  let v1826 : Index := Scalar.indexCast v1825
  ![38, v1826.toNat]
def k0_off40 (i : grid0.Coords) (c0_i32_1011 : BitVec 32) : Fin 2 → Nat :=
  let c39 : Index := 39#32
  let arg1 : BitVec 32 := BitVec.ofNat 32 (i 1).val
  let c4_i32_1010 : BitVec 32 := 4#32
  let v1872 : BitVec 32 := Scalar.muli arg1 c4_i32_1010
  let v1873 : BitVec 32 := Scalar.addi v1872 c0_i32_1011
  let v1874 : Index := Scalar.indexCast v1873
  ![39, v1874.toNat]
def k0_off41 (i : grid0.Coords) (c0_i32_1037 : BitVec 32) : Fin 2 → Nat :=
  let c40 : Index := 40#32
  let arg1 : BitVec 32 := BitVec.ofNat 32 (i 1).val
  let c4_i32_1036 : BitVec 32 := 4#32
  let v1920 : BitVec 32 := Scalar.muli arg1 c4_i32_1036
  let v1921 : BitVec 32 := Scalar.addi v1920 c0_i32_1037
  let v1922 : Index := Scalar.indexCast v1921
  ![40, v1922.toNat]
def k0_off42 (i : grid0.Coords) (c0_i32_1063 : BitVec 32) : Fin 2 → Nat :=
  let c41 : Index := 41#32
  let arg1 : BitVec 32 := BitVec.ofNat 32 (i 1).val
  let c4_i32_1062 : BitVec 32 := 4#32
  let v1968 : BitVec 32 := Scalar.muli arg1 c4_i32_1062
  let v1969 : BitVec 32 := Scalar.addi v1968 c0_i32_1063
  let v1970 : Index := Scalar.indexCast v1969
  ![41, v1970.toNat]
def k0_off43 (i : grid0.Coords) (c0_i32_1089 : BitVec 32) : Fin 2 → Nat :=
  let c42 : Index := 42#32
  let arg1 : BitVec 32 := BitVec.ofNat 32 (i 1).val
  let c4_i32_1088 : BitVec 32 := 4#32
  let v2016 : BitVec 32 := Scalar.muli arg1 c4_i32_1088
  let v2017 : BitVec 32 := Scalar.addi v2016 c0_i32_1089
  let v2018 : Index := Scalar.indexCast v2017
  ![42, v2018.toNat]
def k0_off44 (i : grid0.Coords) (c0_i32_1115 : BitVec 32) : Fin 2 → Nat :=
  let c43 : Index := 43#32
  let arg1 : BitVec 32 := BitVec.ofNat 32 (i 1).val
  let c4_i32_1114 : BitVec 32 := 4#32
  let v2064 : BitVec 32 := Scalar.muli arg1 c4_i32_1114
  let v2065 : BitVec 32 := Scalar.addi v2064 c0_i32_1115
  let v2066 : Index := Scalar.indexCast v2065
  ![43, v2066.toNat]
def k0_off45 (i : grid0.Coords) (c0_i32_1141 : BitVec 32) : Fin 2 → Nat :=
  let c44 : Index := 44#32
  let arg1 : BitVec 32 := BitVec.ofNat 32 (i 1).val
  let c4_i32_1140 : BitVec 32 := 4#32
  let v2112 : BitVec 32 := Scalar.muli arg1 c4_i32_1140
  let v2113 : BitVec 32 := Scalar.addi v2112 c0_i32_1141
  let v2114 : Index := Scalar.indexCast v2113
  ![44, v2114.toNat]
def k0_off46 (i : grid0.Coords) (c0_i32_1167 : BitVec 32) : Fin 2 → Nat :=
  let c45 : Index := 45#32
  let arg1 : BitVec 32 := BitVec.ofNat 32 (i 1).val
  let c4_i32_1166 : BitVec 32 := 4#32
  let v2160 : BitVec 32 := Scalar.muli arg1 c4_i32_1166
  let v2161 : BitVec 32 := Scalar.addi v2160 c0_i32_1167
  let v2162 : Index := Scalar.indexCast v2161
  ![45, v2162.toNat]
def k0_off47 (i : grid0.Coords) (c0_i32_1193 : BitVec 32) : Fin 2 → Nat :=
  let c46 : Index := 46#32
  let arg1 : BitVec 32 := BitVec.ofNat 32 (i 1).val
  let c4_i32_1192 : BitVec 32 := 4#32
  let v2208 : BitVec 32 := Scalar.muli arg1 c4_i32_1192
  let v2209 : BitVec 32 := Scalar.addi v2208 c0_i32_1193
  let v2210 : Index := Scalar.indexCast v2209
  ![46, v2210.toNat]
def k0_off48 (i : grid0.Coords) (c0_i32_1219 : BitVec 32) : Fin 2 → Nat :=
  let c47 : Index := 47#32
  let arg1 : BitVec 32 := BitVec.ofNat 32 (i 1).val
  let c4_i32_1218 : BitVec 32 := 4#32
  let v2256 : BitVec 32 := Scalar.muli arg1 c4_i32_1218
  let v2257 : BitVec 32 := Scalar.addi v2256 c0_i32_1219
  let v2258 : Index := Scalar.indexCast v2257
  ![47, v2258.toNat]
def k0_off49 (i : grid0.Coords) (c0_i32_1245 : BitVec 32) : Fin 2 → Nat :=
  let c48 : Index := 48#32
  let arg1 : BitVec 32 := BitVec.ofNat 32 (i 1).val
  let c4_i32_1244 : BitVec 32 := 4#32
  let v2304 : BitVec 32 := Scalar.muli arg1 c4_i32_1244
  let v2305 : BitVec 32 := Scalar.addi v2304 c0_i32_1245
  let v2306 : Index := Scalar.indexCast v2305
  ![48, v2306.toNat]
def k0_off50 (i : grid0.Coords) (c0_i32_1271 : BitVec 32) : Fin 2 → Nat :=
  let c49 : Index := 49#32
  let arg1 : BitVec 32 := BitVec.ofNat 32 (i 1).val
  let c4_i32_1270 : BitVec 32 := 4#32
  let v2352 : BitVec 32 := Scalar.muli arg1 c4_i32_1270
  let v2353 : BitVec 32 := Scalar.addi v2352 c0_i32_1271
  let v2354 : Index := Scalar.indexCast v2353
  ![49, v2354.toNat]
def k0_off51 (i : grid0.Coords) (c0_i32_1297 : BitVec 32) : Fin 2 → Nat :=
  let c50 : Index := 50#32
  let arg1 : BitVec 32 := BitVec.ofNat 32 (i 1).val
  let c4_i32_1296 : BitVec 32 := 4#32
  let v2400 : BitVec 32 := Scalar.muli arg1 c4_i32_1296
  let v2401 : BitVec 32 := Scalar.addi v2400 c0_i32_1297
  let v2402 : Index := Scalar.indexCast v2401
  ![50, v2402.toNat]
def k0_off52 (i : grid0.Coords) (c0_i32_1323 : BitVec 32) : Fin 2 → Nat :=
  let c51 : Index := 51#32
  let arg1 : BitVec 32 := BitVec.ofNat 32 (i 1).val
  let c4_i32_1322 : BitVec 32 := 4#32
  let v2448 : BitVec 32 := Scalar.muli arg1 c4_i32_1322
  let v2449 : BitVec 32 := Scalar.addi v2448 c0_i32_1323
  let v2450 : Index := Scalar.indexCast v2449
  ![51, v2450.toNat]
def k0_off53 (i : grid0.Coords) (c0_i32_1349 : BitVec 32) : Fin 2 → Nat :=
  let c52 : Index := 52#32
  let arg1 : BitVec 32 := BitVec.ofNat 32 (i 1).val
  let c4_i32_1348 : BitVec 32 := 4#32
  let v2496 : BitVec 32 := Scalar.muli arg1 c4_i32_1348
  let v2497 : BitVec 32 := Scalar.addi v2496 c0_i32_1349
  let v2498 : Index := Scalar.indexCast v2497
  ![52, v2498.toNat]
def k0_off54 (i : grid0.Coords) (c0_i32_1375 : BitVec 32) : Fin 2 → Nat :=
  let c53 : Index := 53#32
  let arg1 : BitVec 32 := BitVec.ofNat 32 (i 1).val
  let c4_i32_1374 : BitVec 32 := 4#32
  let v2544 : BitVec 32 := Scalar.muli arg1 c4_i32_1374
  let v2545 : BitVec 32 := Scalar.addi v2544 c0_i32_1375
  let v2546 : Index := Scalar.indexCast v2545
  ![53, v2546.toNat]
def k0_off55 (i : grid0.Coords) (c0_i32_1401 : BitVec 32) : Fin 2 → Nat :=
  let c54 : Index := 54#32
  let arg1 : BitVec 32 := BitVec.ofNat 32 (i 1).val
  let c4_i32_1400 : BitVec 32 := 4#32
  let v2592 : BitVec 32 := Scalar.muli arg1 c4_i32_1400
  let v2593 : BitVec 32 := Scalar.addi v2592 c0_i32_1401
  let v2594 : Index := Scalar.indexCast v2593
  ![54, v2594.toNat]
def k0_off56 (i : grid0.Coords) (c0_i32_1427 : BitVec 32) : Fin 2 → Nat :=
  let c55 : Index := 55#32
  let arg1 : BitVec 32 := BitVec.ofNat 32 (i 1).val
  let c4_i32_1426 : BitVec 32 := 4#32
  let v2640 : BitVec 32 := Scalar.muli arg1 c4_i32_1426
  let v2641 : BitVec 32 := Scalar.addi v2640 c0_i32_1427
  let v2642 : Index := Scalar.indexCast v2641
  ![55, v2642.toNat]
def k0_off57 (i : grid0.Coords) (c0_i32_1453 : BitVec 32) : Fin 2 → Nat :=
  let c56 : Index := 56#32
  let arg1 : BitVec 32 := BitVec.ofNat 32 (i 1).val
  let c4_i32_1452 : BitVec 32 := 4#32
  let v2688 : BitVec 32 := Scalar.muli arg1 c4_i32_1452
  let v2689 : BitVec 32 := Scalar.addi v2688 c0_i32_1453
  let v2690 : Index := Scalar.indexCast v2689
  ![56, v2690.toNat]
def k0_off58 (i : grid0.Coords) (c0_i32_1479 : BitVec 32) : Fin 2 → Nat :=
  let c57 : Index := 57#32
  let arg1 : BitVec 32 := BitVec.ofNat 32 (i 1).val
  let c4_i32_1478 : BitVec 32 := 4#32
  let v2736 : BitVec 32 := Scalar.muli arg1 c4_i32_1478
  let v2737 : BitVec 32 := Scalar.addi v2736 c0_i32_1479
  let v2738 : Index := Scalar.indexCast v2737
  ![57, v2738.toNat]
def k0_off59 (i : grid0.Coords) (c0_i32_1505 : BitVec 32) : Fin 2 → Nat :=
  let c58 : Index := 58#32
  let arg1 : BitVec 32 := BitVec.ofNat 32 (i 1).val
  let c4_i32_1504 : BitVec 32 := 4#32
  let v2784 : BitVec 32 := Scalar.muli arg1 c4_i32_1504
  let v2785 : BitVec 32 := Scalar.addi v2784 c0_i32_1505
  let v2786 : Index := Scalar.indexCast v2785
  ![58, v2786.toNat]
def k0_off60 (i : grid0.Coords) (c0_i32_1531 : BitVec 32) : Fin 2 → Nat :=
  let c59 : Index := 59#32
  let arg1 : BitVec 32 := BitVec.ofNat 32 (i 1).val
  let c4_i32_1530 : BitVec 32 := 4#32
  let v2832 : BitVec 32 := Scalar.muli arg1 c4_i32_1530
  let v2833 : BitVec 32 := Scalar.addi v2832 c0_i32_1531
  let v2834 : Index := Scalar.indexCast v2833
  ![59, v2834.toNat]
def k0_off61 (i : grid0.Coords) (c0_i32_1557 : BitVec 32) : Fin 2 → Nat :=
  let c60 : Index := 60#32
  let arg1 : BitVec 32 := BitVec.ofNat 32 (i 1).val
  let c4_i32_1556 : BitVec 32 := 4#32
  let v2880 : BitVec 32 := Scalar.muli arg1 c4_i32_1556
  let v2881 : BitVec 32 := Scalar.addi v2880 c0_i32_1557
  let v2882 : Index := Scalar.indexCast v2881
  ![60, v2882.toNat]
def k0_off62 (i : grid0.Coords) (c0_i32_1583 : BitVec 32) : Fin 2 → Nat :=
  let c61 : Index := 61#32
  let arg1 : BitVec 32 := BitVec.ofNat 32 (i 1).val
  let c4_i32_1582 : BitVec 32 := 4#32
  let v2928 : BitVec 32 := Scalar.muli arg1 c4_i32_1582
  let v2929 : BitVec 32 := Scalar.addi v2928 c0_i32_1583
  let v2930 : Index := Scalar.indexCast v2929
  ![61, v2930.toNat]
def k0_off63 (i : grid0.Coords) (c0_i32_1609 : BitVec 32) : Fin 2 → Nat :=
  let c62 : Index := 62#32
  let arg1 : BitVec 32 := BitVec.ofNat 32 (i 1).val
  let c4_i32_1608 : BitVec 32 := 4#32
  let v2976 : BitVec 32 := Scalar.muli arg1 c4_i32_1608
  let v2977 : BitVec 32 := Scalar.addi v2976 c0_i32_1609
  let v2978 : Index := Scalar.indexCast v2977
  ![62, v2978.toNat]
def k0_off64 (i : grid0.Coords) (c0_i32_1635 : BitVec 32) : Fin 2 → Nat :=
  let c63 : Index := 63#32
  let arg1 : BitVec 32 := BitVec.ofNat 32 (i 1).val
  let c4_i32_1634 : BitVec 32 := 4#32
  let v3024 : BitVec 32 := Scalar.muli arg1 c4_i32_1634
  let v3025 : BitVec 32 := Scalar.addi v3024 c0_i32_1635
  let v3026 : Index := Scalar.indexCast v3025
  ![63, v3026.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .smem S64x73 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefInIdeal.lean ====
abbrev S3072x8192 : Shape := ⟨2, ![3072, 8192]⟩
abbrev S8192x9280 : Shape := ⟨2, ![8192, 9280]⟩
abbrev S64x73 : Shape := ⟨2, ![64, 73]⟩
abbrev S3072x9216 : Shape := ⟨2, ![3072, 9216]⟩
abbrev S64x73x1 : Shape := ⟨3, ![64, 73, 1]⟩
abbrev S64x73x128 : Shape := ⟨3, ![64, 73, 128]⟩
abbrev S64x9344 : Shape := ⟨2, ![64, 9344]⟩
abbrev S64x9280 : Shape := ⟨2, ![64, 9280]⟩
abbrev S64x128x9280 : Shape := ⟨3, ![64, 128, 9280]⟩
abbrev S64x1x9280 : Shape := ⟨3, ![64, 1, 9280]⟩
abbrev S3072x9280 : Shape := ⟨2, ![3072, 9280]⟩

abbrev nBuf : Space → Nat
  | .hbm => 4
  | .vmem => 4
  | .smem => 0
  | _ => 0

abbrev bufTy : (tb : Table) → Fin (tcTables nBuf tb) → BufTy
  | .hbm, ⟨0, _⟩ => ⟨S3072x8192, .bf16⟩
  | .hbm, ⟨1, _⟩ => ⟨S8192x9280, .fp8e4m3⟩
  | .hbm, ⟨2, _⟩ => ⟨S64x73, .f32⟩
  | .hbm, ⟨3, _⟩ => ⟨S3072x9216, .f32⟩
  | .local _ .vmem, ⟨0, _⟩ => ⟨S3072x8192, .bf16⟩
  | .local _ .vmem, ⟨1, _⟩ => ⟨S8192x9280, .fp8e4m3⟩
  | .local _ .vmem, ⟨2, _⟩ => ⟨S64x73, .f32⟩
  | .local _ .vmem, ⟨3, _⟩ => ⟨S3072x9216, .f32⟩
  | _, _ => ⟨S3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3072x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x9280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x73 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.OutBlock.lean ====
/-
  What one block of the output projection computes.

  The body widens the fp8 weights of its 512 columns, tile by tile of 128 × 128, multiplies each tile by its own scale
  and stores it in the scratch buffer: after the 128 stores the scratch holds ONE matrix, `weights`, each entry a code
  times the scale of its tile.  Then the block is the residual plus the product with that matrix.
-/
module

public import proofs.«01_k».proof.Proof.Gen.GemmOutIdeal.Value
public import Idealize.ShloMosaic.Lib.Pointwise

@[expose] public section

-- the literal extents of the blocks are unfolded by the elaborator
set_option maxRecDepth 16384

noncomputable section

namespace Cert.GemmOutIdeal.Value

open Cert.GemmOutIdeal Cert.GemmOutIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The position of the scale of row `k` and column `n` of the block at grid point `i`. -/
def scaleAt (i : grid0.Coords) (y : S4096x512.Idx) : S32x64.Idx := fun a => match a with
  | ⟨0, _⟩ => ⟨(y 0).val / 128, by have : (y 0).val < 4096 := (y 0).isLt; show _ < 32; omega⟩
  | ⟨1, _⟩ => ⟨(i 1).val * 4 + (y 1).val / 128, by
      have : (y 1).val < 512 := (y 1).isLt
      have : (i 1).val < 16 := (i 1).isLt
      show _ < 64; omega⟩

/-- The dequantised weights of the block at grid point `i`: each code times the scale of its tile. -/
def weights (i : grid0.Coords) (x1 : Vec Ideal S4096x512 .fp8e4m3) (x2 : Vec Ideal S32x64 .f32) : Vec Ideal S4096x512 .bf16 :=
  fun y => (x1 y * x2 (scaleAt i y) : EReal)

/-- The tile of 128 × 128 weights stored at `(off0, off1)` is that tile of `weights`: its scale is read at row `s0` and
    column `4 · i₁ + jw`. -/
theorem tile_eq {i : grid0.Coords} {arg3 : Memref sig .tc .vmem S4096x512 .fp8e4m3} (harg3 : arg3.IsWhole) {arg4 : Memref sig .tc .smem S32x64 .f32} (harg4 : arg4.IsWhole)
    {x1 : Vec Ideal S4096x512 .fp8e4m3} {x2 : Vec Ideal S32x64 .f32}
    {off0 off1 s0 : ℕ} {jw : BitVec 32} {inb : ∀ a, (![off0, off1] : Fin 2 → ℕ) a + S128x128.size a ≤ S4096x512.size a}
    {inb2 : ∀ a, (![s0, (Scalar.indexCast (Scalar.addi (Scalar.muli (BitVec.ofNat 32 (i 1).val) 4#32) jw)).toNat] : Fin 2 → ℕ) a + S1x1.size a ≤ S32x64.size a}
    {hn : 0 < S1x1.numel} {h1 h2 h3}
    {P : FVec Ideal S128x128 .bf16} {x : S128x128.Idx}
    (hP : P = shapeCast S128x128 (mulf (extf (φ := .fp8e4m3) .bf16 (arg3.view.readAt (Elt Ideal) (Rect.unit (s := S4096x512) ![off0, off1] S128x128.size inb).toLoadRect (harg3.unread x1)) h1)
      (broadcast S128x128 (Scalar.truncf (φ := .f32) .bf16 h2 (arg4.view.readAt (Elt Ideal) (Rect.unit (s := S32x64) ![s0, (Scalar.indexCast (Scalar.addi (Scalar.muli (BitVec.ofNat 32 (i 1).val) 4#32) jw)).toNat] S1x1.size inb2).toLoadRect (harg4.unread x2) (Shape.Idx.first hn))))) h3)
    (e0 : off0 = 128 * s0) (e1 : off1 = 128 * jw.toNat) (ej : jw.toNat < 4) :
    P x = weights i x1 x2 ((Rect.unit (s := S4096x512) ![off0, off1] S128x128.size inb).emb x) := by
  have r3 := harg3.read_unread (Val := Elt Ideal) x1
  have r4 := harg4.read_unread (Val := Elt Ideal) x2
  rw [hP, shapeCast_self, View.readAt_eq_ld, View.readAt_eq_ld, r3, r4]
  have hi : (i 1).val < 16 := (i 1).isLt
  have hw : (Scalar.indexCast (Scalar.addi (Scalar.muli (BitVec.ofNat 32 (i 1).val) 4#32) jw)).toNat = (i 1).val * 4 + jw.toNat := by
    show ((BitVec.ofNat 32 (i 1).val * 4#32 + jw)).toNat = _
    rw [BitVec.toNat_add, BitVec.toNat_mul, BitVec.toNat_ofNat]
    simp only [BitVec.toNat_ofNat]
    omega
  have h0 : (x 0).val < 128 := (x 0).isLt
  have h1' : (x 1).val < 128 := (x 1).isLt
  show (x1 _ * x2 _ : EReal) = x1 _ * x2 _
  congr 2
  funext a
  apply Fin.ext
  match a with
  | ⟨0, _⟩ =>
    show s0 + 1 * 0 = (off0 + 1 * (x 0).val) / 128
    omega
  | ⟨1, _⟩ =>
    show (Scalar.indexCast (Scalar.addi (Scalar.muli (BitVec.ofNat 32 (i 1).val) 4#32) jw)).toNat + 1 * 0 = (i 1).val * 4 + (off1 + 1 * (x 1).val) / 128
    rw [hw]; omega

/-- A property of every element of a list, one element at a time. -/
theorem forall_cons {α : Type*} {p : α → Prop} {a : α} {L : List α} (h : p a) (hL : ∀ q ∈ L, p q) : ∀ q ∈ a :: L, p q := by
  intro q hq
  rcases List.mem_cons.mp hq with rfl | hq
  · exact h
  · exact hL q hq

set_option maxHeartbeats 0 in
/-- What the body leaves in its output block: the residual plus the product of the activations with `weights`. -/
theorem out_A (c : Dev nD) (i : grid0.Coords) (arg2 : Memref sig .tc .vmem S1024x4096 .bf16) (harg2 : arg2.IsWhole) (arg3 : Memref sig .tc .vmem S4096x512 .fp8e4m3) (harg3 : arg3.IsWhole) (arg4 : Memref sig .tc .smem S32x64 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S4096x512 .bf16) (harg7 : arg7.IsWhole)
    (x0 : Vec Ideal S1024x4096 .bf16) (x1 : Vec Ideal S4096x512 .fp8e4m3) (x2 : Vec Ideal S32x64 .f32) (x3 : Vec Ideal S1024x512 .bf16) :
    out0_A_4 c i arg2 harg2 arg3 harg3 arg4 harg4 arg5 harg5 arg6 harg6 arg7 harg7 x0 x1 x2 x3 = k0_pay171 x0 (weights i x1 x2) x3 := by
  unfold out0_A_4
  rw [View.read_writes_eq_canon _ _ _ (cover0_A_4 c i arg2 harg2 arg3 harg3 arg4 harg4 arg5 harg5 arg6 harg6 arg7 harg7 x0 x1 x2 x3)]
  unfold kernelRun0_A
  dsimp only
  sl_unfold_words
  rw [View.canon_unit_zero hz]
  have r2 := harg2.read_unread (Val := Elt Ideal) x0
  have r5 := harg5.read_unread (Val := Elt Ideal) x3
  congr 1
  · rw [View.readAt_eq_ld, r2]; exact View.ld_unit_zero (S := S1024x4096) hz _ x0
  · rw [View.readCov_eq_canon']
    funext y
    change S4096x512.Idx at y
    refine (congrArg _ (?_ : _ = y)).trans (View.canon_apply_of_pieces (weights i x1 x2) _ ?_ y ?_)
    · funext a; apply Fin.ext; match a with
      | ⟨0, _⟩ => show 0 + 1 * (y 0).val = (y 0).val; omega
      | ⟨1, _⟩ => show 0 + 1 * (y 1).val = (y 1).val; omega
    · repeat' first
        | refine forall_cons (fun x => tile_eq harg3 harg4 rfl rfl rfl (by decide)) ?_
        | exact fun q hq => absurd hq List.not_mem_nil
    · exact View.cover_of_tiledL (s := S4096x512) _ S128x128.size (by sl_kernel_rfl) y
  · rw [View.readAt_eq_ld, r5]; exact View.ld_unit_zero (S := S1024x512) hz _ x3

end Cert.GemmOutIdeal.Value

end
-- ==== Proof.OutProduct.lean ====
/-
  The output projection over the extended reals: kernel and reference leave the same array.

  Both are `product`: at row `r` and column `n` the residual plus the sum over `k` of the activation times the weight,
  the weight being the code times the scale of its tile of 128 × 128.
-/
module

public import proofs.«01_k».proof.Proof.OutBlock
public import proofs.«01_k».proof.Proof.Gen.RefOutIdeal.Value

@[expose] public section

-- the literal extents of the arrays are unfolded by the elaborator
set_option maxRecDepth 16384

noncomputable section

namespace Cert.GemmOutIdeal.Value

open Cert.GemmOutIdeal Cert.GemmOutIdeal.Gen Idealize.ShloMosaic Idealize.ShloMosaic.TcCoe Idealize.SL.Sem
open Idealize.ShloMosaic.Pipeline (Dat)

/-- The output projection, entry by entry. -/
def product (a0 : Vec Ideal S3072x4096 .bf16) (a1 : Vec Ideal S4096x8192 .fp8e4m3) (a2 : Vec Ideal S32x64 .f32) (a3 : Vec Ideal S3072x8192 .bf16) :
    Vec Ideal S3072x8192 .bf16 := fun j =>
  (a3 j + ∑ k : Fin 4096, a0 (ix2 (j 0) k) *
    (a1 (ix2 k (j 1)) * a2 (ix2 ⟨k.val / 128, by omega⟩ ⟨(j 1).val / 128, by have : (j 1).val < 8192 := (j 1).isLt; omega⟩)) : EReal)

/-- The reference computes `product`. -/
theorem reference_eq (a0 : Vec Ideal S3072x4096 .bf16) (a1 : Vec Ideal S4096x8192 .fp8e4m3) (a2 : Vec Ideal S32x64 .f32) (a3 : Vec Ideal S3072x8192 .bf16) :
    Cert.RefOutIdeal.Value.G4 (F := Ideal) a0 a1 a2 a3 = product a0 a1 a2 a3 := by
  funext j
  obtain ⟨r, n, rfl⟩ : ∃ (r : Fin 3072) (n : Fin 8192), j = ix2 r n := ⟨j 0, j 1, eq_ix2 j⟩
  pointwise [Cert.RefOutIdeal.Gen.k0_pay1, product]

/-- One entry of the block that the body leaves. -/
theorem block_apply (i : grid0.Coords) (x0 : Vec Ideal S1024x4096 .bf16) (x1 : Vec Ideal S4096x512 .fp8e4m3) (x2 : Vec Ideal S32x64 .f32) (x3 : Vec Ideal S1024x512 .bf16) (j : S1024x512.Idx) :
    k0_pay171 x0 (weights i x1 x2) x3 j =
      (x3 j + ∑ k : Fin 4096, x0 (ix2 (j 0) k) * (x1 (ix2 k (j 1)) * x2 (scaleAt i (ix2 k (j 1)))) : EReal) := by
  pointwise [k0_pay171, weights]

/-- Where the six windows of a grid point lie: activations and residual at the row block of the output, weights and
    residual at its column block, the scales whole. -/
theorem index_facts : ∀ t : Fin cfg0.N,
    win0_0.index t 0 = win0_4.index t 0 ∧ win0_0.index t 1 = 0 ∧ win0_1.index t 0 = 0 ∧ win0_1.index t 1 = win0_4.index t 1
    ∧ win0_2.index t 0 = 0 ∧ win0_2.index t 1 = 0 ∧ win0_3.index t 0 = win0_4.index t 0 ∧ win0_3.index t 1 = win0_4.index t 1
    ∧ ((grid0.coords t) 1).val = win0_4.index t 1 :=
  (by decide +kernel : ∀ t : Fin grid0.N,
    win0_0.index t 0 = win0_4.index t 0 ∧ win0_0.index t 1 = 0 ∧ win0_1.index t 0 = 0 ∧ win0_1.index t 1 = win0_4.index t 1
    ∧ win0_2.index t 0 = 0 ∧ win0_2.index t 1 = 0 ∧ win0_3.index t 0 = win0_4.index t 0 ∧ win0_3.index t 1 = win0_4.index t 1
    ∧ ((grid0.coords t) 1).val = win0_4.index t 1)

/-- Each array read at the place of an entry of its block gives that entry of `product`. -/
theorem product_block (a0 : Vec Ideal S3072x4096 .bf16) (a1 : Vec Ideal S4096x8192 .fp8e4m3) (a2 : Vec Ideal S32x64 .f32) (a3 : Vec Ideal S3072x8192 .bf16)
    (t : Fin cfg0.N) (j : S1024x512.Idx) :
    (a3 (((cfg0.win 3).blk t).view.emb j) + ∑ k : Fin 4096,
      a0 (((cfg0.win 0).blk t).view.emb (show S1024x4096.Idx from ix2 (j 0) k))
        * (a1 (((cfg0.win 1).blk t).view.emb (show S4096x512.Idx from ix2 k (j 1)))
          * a2 (((cfg0.win 2).blk t).view.emb (scaleAt (grid0.coords t) (ix2 k (j 1))))) : EReal)
    = product a0 a1 a2 a3 (((cfg0.win 4).blk t).view.emb j) := by
  obtain ⟨e0, e1, e2, e3, e4, e5, e6, e7, e8⟩ := index_facts t
  have h1 : (j 1).val < 512 := (j 1).isLt
  unfold product
  refine congrArg₂ _ (congrArg _ ?_) (Finset.sum_congr rfl fun k _ => congrArg₂ _ (congrArg _ ?_) (congrArg₂ _ (congrArg _ ?_) (congrArg _ ?_)))
  · funext a; apply Fin.ext
    match a with
    | ⟨0, _⟩ => show win0_3.index t (0 : Fin 2) * 1024 + 1 * (j 0).val = win0_4.index t (0 : Fin 2) * 1024 + 1 * (j 0).val; rw [e6]
    | ⟨1, _⟩ => show win0_3.index t (1 : Fin 2) * 512 + 1 * (j 1).val = win0_4.index t (1 : Fin 2) * 512 + 1 * (j 1).val; rw [e7]
  · funext a; apply Fin.ext
    match a with
    | ⟨0, _⟩ => show win0_0.index t (0 : Fin 2) * 1024 + 1 * (j 0).val = win0_4.index t (0 : Fin 2) * 1024 + 1 * (j 0).val; rw [e0]
    | ⟨1, _⟩ => show win0_0.index t (1 : Fin 2) * 4096 + 1 * k.val = k.val; omega
  · funext a; apply Fin.ext
    match a with
    | ⟨0, _⟩ => show win0_1.index t (0 : Fin 2) * 4096 + 1 * k.val = k.val; omega
    | ⟨1, _⟩ => show win0_1.index t (1 : Fin 2) * 512 + 1 * (j 1).val = win0_4.index t (1 : Fin 2) * 512 + 1 * (j 1).val; rw [e3]
  · funext a; apply Fin.ext
    match a with
    | ⟨0, _⟩ => show win0_2.index t (0 : Fin 2) * 32 + 1 * (k.val / 128) = k.val / 128; omega
    | ⟨1, _⟩ =>
      show win0_2.index t (1 : Fin 2) * 64 + 1 * ((grid0.coords t 1).val * 4 + (j 1).val / 128) = (win0_4.index t (1 : Fin 2) * 512 + 1 * (j 1).val) / 128
      omega

variable (m : (ℓ : Loc nD τ sig) → Buf (Elt Ideal) ℓ) (ρ : Dev nD → PrngReg)

/-- What a grid point writes back is its block of `product`. -/
theorem flushed_eq (c : Dev nD) (t : Fin cfg0.N) :
    (dats m 0 c).flushed 4 t = ((cfg0.win 4).blk t).view.read (Elt Ideal)
      (product (V m c main_arg0) (V m c main_arg1) (V m c main_arg2) (V m c main_arg3)) := by
  rw [flushed4_A, out_A]
  funext j
  change S1024x512.Idx at j
  show k0_pay171 _ _ _ j = _
  rw [block_apply]
  exact product_block (V m c main_arg0) (V m c main_arg1) (V m c main_arg2) (V m c main_arg3) t j

/-- Some grid point has any given block of the output. -/
theorem index_surj : ∀ (a : Fin 3) (b : Fin 16), ∃ t : Fin cfg0.N, (cfg0.win 4).flush t = true ∧ win0_4.index t 0 = a.val ∧ win0_4.index t 1 = b.val :=
  (by decide +kernel : ∀ (a : Fin 3) (b : Fin 16), ∃ t : Fin grid0.N, (cfg0.win 4).flush t = true ∧ win0_4.index t 0 = a.val ∧ win0_4.index t 1 = b.val)

/-- Every entry of the array is in the block of some grid point. -/
theorem covered (i : S3072x8192.Idx) :
    ∃ t : Fin cfg0.N, (cfg0.win 4).flush t = true ∧ i ∈ ((cfg0.win 4).blk t).view.set := by
  have h0 : (i 0).val < 3072 := (i 0).isLt
  have h1 : (i 1).val < 8192 := (i 1).isLt
  obtain ⟨t, hf, e0, e1⟩ := index_surj ⟨(i 0).val / 1024, by omega⟩ ⟨(i 1).val / 512, by omega⟩
  have e0' : win0_4.index t (0 : Fin 2) = (i 0).val / 1024 := e0
  have e1' : win0_4.index t (1 : Fin 2) = (i 1).val / 512 := e1
  refine ⟨t, hf, ?_⟩
  have h := ((cfg0.win 4).blk t).view.emb_mem_set (show S1024x512.Idx from ix2 ⟨(i 0).val % 1024, by omega⟩ ⟨(i 1).val % 512, by omega⟩)
  have he : ((cfg0.win 4).blk t).view.emb (show S1024x512.Idx from ix2 ⟨(i 0).val % 1024, by omega⟩ ⟨(i 1).val % 512, by omega⟩) = i := by
    funext a; apply Fin.ext
    match a with
    | ⟨0, _⟩ => show win0_4.index t (0 : Fin 2) * 1024 + 1 * ((i 0).val % 1024) = (i 0).val; omega
    | ⟨1, _⟩ => show win0_4.index t (1 : Fin 2) * 512 + 1 * ((i 1).val % 512) = (i 1).val; omega
  rwa [he] at h

/-- The array after the run. -/
theorem final (c : Dev nD) : (dats m 0 c).arrAt 4 cfg0.N
    = product (m ((c : Thread nD τ).loc main_arg0)) (m ((c : Thread nD τ).loc main_arg1)) (m ((c : Thread nD τ).loc main_arg2)) (m ((c : Thread nD τ).loc main_arg3)) :=
  ((dats m 0 c).arrAt_eq_of_cover 4 (product (V m c main_arg0) (V m c main_arg1) (V m c main_arg2) (V m c main_arg3)) (fun t _ => flushed_eq m c t) covered).trans
    (by rw [V_main_arg0, V_main_arg1, V_main_arg2, V_main_arg3])

end Cert.GemmOutIdeal.Value

end
-- ==== Proof.InBlock.lean ====
/-
  What one block of the input projection computes.

  The body widens the fp8 weights of its 512 columns, tile by tile of 128 × 128, multiplies each tile by its own scale
  and stores it in the scratch buffer: after the 256 stores the scratch holds ONE matrix, `weights`, each entry a code
  times the scale of its tile.  Then the block is the product with that matrix.
-/
module

public import proofs.«01_k».proof.Proof.Gen.GemmInIdeal.Value
public import Idealize.ShloMosaic.Lib.Pointwise

@[expose] public section

-- the literal extents of the blocks are unfolded by the elaborator
set_option maxRecDepth 16384

noncomputable section

namespace Cert.GemmInIdeal.Value

open Cert.GemmInIdeal Cert.GemmInIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The position of the scale of row `k` and column `n` of the block at grid point `i`. -/
def scaleAt (i : grid0.Coords) (y : S8192x512.Idx) : S64x73.Idx := fun a => match a with
  | ⟨0, _⟩ => ⟨(y 0).val / 128, by have : (y 0).val < 8192 := (y 0).isLt; show _ < 64; omega⟩
  | ⟨1, _⟩ => ⟨(i 1).val * 4 + (y 1).val / 128, by
      have : (y 1).val < 512 := (y 1).isLt
      have : (i 1).val < 18 := (i 1).isLt
      show _ < 73; omega⟩

/-- The dequantised weights of the block at grid point `i`: each code times the scale of its tile. -/
def weights (i : grid0.Coords) (x1 : Vec Ideal S8192x512 .fp8e4m3) (x2 : Vec Ideal S64x73 .f32) : Vec Ideal S8192x512 .bf16 :=
  fun y => (x1 y * x2 (scaleAt i y) : EReal)

/-- The tile of 128 × 128 weights stored at `(off0, off1)` is that tile of `weights`: its scale is read at row `s0` and
    column `4 · i₁ + jw`. -/
theorem tile_eq {i : grid0.Coords} {arg3 : Memref sig .tc .vmem S8192x512 .fp8e4m3} (harg3 : arg3.IsWhole) {arg4 : Memref sig .tc .smem S64x73 .f32} (harg4 : arg4.IsWhole)
    {x1 : Vec Ideal S8192x512 .fp8e4m3} {x2 : Vec Ideal S64x73 .f32}
    {off0 off1 s0 : ℕ} {jw : BitVec 32} {inb : ∀ a, (![off0, off1] : Fin 2 → ℕ) a + S128x128.size a ≤ S8192x512.size a}
    {inb2 : ∀ a, (![s0, (Scalar.indexCast (Scalar.addi (Scalar.muli (BitVec.ofNat 32 (i 1).val) 4#32) jw)).toNat] : Fin 2 → ℕ) a + S1x1.size a ≤ S64x73.size a}
    {hn : 0 < S1x1.numel} {h1 h2 h3}
    {P : FVec Ideal S128x128 .bf16} {x : S128x128.Idx}
    (hP : P = shapeCast S128x128 (mulf (extf (φ := .fp8e4m3) .bf16 (arg3.view.readAt (Elt Ideal) (Rect.unit (s := S8192x512) ![off0, off1] S128x128.size inb).toLoadRect (harg3.unread x1)) h1)
      (broadcast S128x128 (Scalar.truncf (φ := .f32) .bf16 h2 (arg4.view.readAt (Elt Ideal) (Rect.unit (s := S64x73) ![s0, (Scalar.indexCast (Scalar.addi (Scalar.muli (BitVec.ofNat 32 (i 1).val) 4#32) jw)).toNat] S1x1.size inb2).toLoadRect (harg4.unread x2) (Shape.Idx.first hn))))) h3)
    (e0 : off0 = 128 * s0) (e1 : off1 = 128 * jw.toNat) (ej : jw.toNat < 4) :
    P x = weights i x1 x2 ((Rect.unit (s := S8192x512) ![off0, off1] S128x128.size inb).emb x) := by
  have r3 := harg3.read_unread (Val := Elt Ideal) x1
  have r4 := harg4.read_unread (Val := Elt Ideal) x2
  rw [hP, shapeCast_self, View.readAt_eq_ld, View.readAt_eq_ld, r3, r4]
  have hi : (i 1).val < 18 := (i 1).isLt
  have hw : (Scalar.indexCast (Scalar.addi (Scalar.muli (BitVec.ofNat 32 (i 1).val) 4#32) jw)).toNat = (i 1).val * 4 + jw.toNat := by
    show ((BitVec.ofNat 32 (i 1).val * 4#32 + jw)).toNat = _
    rw [BitVec.toNat_add, BitVec.toNat_mul, BitVec.toNat_ofNat]
    simp only [BitVec.toNat_ofNat]
    omega
  have h0 : (x 0).val < 128 := (x 0).isLt
  have h1' : (x 1).val < 128 := (x 1).isLt
  show (x1 _ * x2 _ : EReal) = x1 _ * x2 _
  congr 2
  funext a
  apply Fin.ext
  match a with
  | ⟨0, _⟩ =>
    show s0 + 1 * 0 = (off0 + 1 * (x 0).val) / 128
    omega
  | ⟨1, _⟩ =>
    show (Scalar.indexCast (Scalar.addi (Scalar.muli (BitVec.ofNat 32 (i 1).val) 4#32) jw)).toNat + 1 * 0 = (i 1).val * 4 + (off1 + 1 * (x 1).val) / 128
    rw [hw]; omega

/-- A property of every element of a list, one element at a time. -/
theorem forall_cons {α : Type*} {p : α → Prop} {a : α} {L : List α} (h : p a) (hL : ∀ q ∈ L, p q) : ∀ q ∈ a :: L, p q := by
  intro q hq
  rcases List.mem_cons.mp hq with rfl | hq
  · exact h
  · exact hL q hq

set_option maxHeartbeats 0 in
/-- What the body leaves in its output block: the product of the activations with `weights`. -/
theorem out_A (c : Dev nD) (i : grid0.Coords) (arg2 : Memref sig .tc .vmem S512x8192 .bf16) (harg2 : arg2.IsWhole) (arg3 : Memref sig .tc .vmem S8192x512 .fp8e4m3) (harg3 : arg3.IsWhole) (arg4 : Memref sig .tc .smem S64x73 .f32) (harg4 : arg4.IsWhole) (arg5 : Memref sig .tc .vmem S512x512 .f32) (harg5 : arg5.IsWhole) (arg6 : Memref sig .tc .vmem S8192x512 .bf16) (harg6 : arg6.IsWhole)
    (x0 : Vec Ideal S512x8192 .bf16) (x1 : Vec Ideal S8192x512 .fp8e4m3) (x2 : Vec Ideal S64x73 .f32) :
    out0_A_3 c i arg2 harg2 arg3 harg3 arg4 harg4 arg5 harg5 arg6 harg6 x0 x1 x2 = k0_pay342 x0 (weights i x1 x2) := by
  unfold out0_A_3
  rw [View.read_writes_eq_canon _ _ _ (cover0_A_3 c i arg2 harg2 arg3 harg3 arg4 harg4 arg5 harg5 arg6 harg6 x0 x1 x2)]
  unfold kernelRun0_A
  dsimp only
  sl_unfold_words
  rw [View.canon_unit_zero hz]
  have r2 := harg2.read_unread (Val := Elt Ideal) x0
  congr 1
  · rw [View.readAt_eq_ld, r2]; exact View.ld_unit_zero (S := S512x8192) hz _ x0
  · rw [View.readCov_eq_canon']
    funext y
    change S8192x512.Idx at y
    refine (congrArg _ (?_ : _ = y)).trans (View.canon_apply_of_pieces (weights i x1 x2) _ ?_ y ?_)
    · funext a; apply Fin.ext; match a with
      | ⟨0, _⟩ => show 0 + 1 * (y 0).val = (y 0).val; omega
      | ⟨1, _⟩ => show 0 + 1 * (y 1).val = (y 1).val; omega
    · repeat' first
        | refine forall_cons (fun x => tile_eq harg3 harg4 rfl rfl rfl (by decide)) ?_
        | exact fun q hq => absurd hq List.not_mem_nil
    · exact View.cover_of_tiledL (s := S8192x512) _ S128x128.size (by sl_kernel_rfl) y

end Cert.GemmInIdeal.Value

end
-- ==== Proof.InProduct.lean ====
/-
  The input projection over the extended reals: kernel and reference leave the same array.

  Both are `product`: at row `r` and column `n` the sum over `k` of the activation times the weight, the weight being
  the code times the scale of its tile of 128 × 128.
-/
module

public import proofs.«01_k».proof.Proof.InBlock
public import proofs.«01_k».proof.Proof.Gen.RefInIdeal.Value

@[expose] public section

-- the literal extents of the arrays are unfolded by the elaborator
set_option maxRecDepth 16384

noncomputable section

namespace Cert.GemmInIdeal.Value

open Cert.GemmInIdeal Cert.GemmInIdeal.Gen Idealize.ShloMosaic Idealize.ShloMosaic.TcCoe Idealize.SL.Sem
open Idealize.ShloMosaic.Pipeline (Dat)

/-- The input projection, entry by entry: its first 9216 columns. -/
def product (a0 : Vec Ideal S3072x8192 .bf16) (a1 : Vec Ideal S8192x9280 .fp8e4m3) (a2 : Vec Ideal S64x73 .f32) : Vec Ideal S3072x9216 .f32 := fun j =>
  have hj : (j 1).val < 9216 := (j 1).isLt
  (∑ k : Fin 8192, a0 (ix2 (j 0) k) *
    (a1 (ix2 k ⟨(j 1).val, by omega⟩) * a2 (ix2 ⟨k.val / 128, by omega⟩ ⟨(j 1).val / 128, by omega⟩)) : EReal)

/-- The reference computes `product`. -/
theorem reference_eq (a0 : Vec Ideal S3072x8192 .bf16) (a1 : Vec Ideal S8192x9280 .fp8e4m3) (a2 : Vec Ideal S64x73 .f32) :
    Cert.RefInIdeal.Value.G3 (F := Ideal) a0 a1 a2 = product a0 a1 a2 := by
  funext j
  obtain ⟨r, n, rfl⟩ : ∃ (r : Fin 3072) (n : Fin 9216), j = ix2 r n := ⟨j 0, j 1, eq_ix2 j⟩
  pointwise [Cert.RefInIdeal.Gen.k0_pay1, product]

/-- One entry of the block that the body leaves. -/
theorem block_apply (i : grid0.Coords) (x0 : Vec Ideal S512x8192 .bf16) (x1 : Vec Ideal S8192x512 .fp8e4m3) (x2 : Vec Ideal S64x73 .f32) (j : S512x512.Idx) :
    k0_pay342 x0 (weights i x1 x2) j =
      (∑ k : Fin 8192, x0 (ix2 (j 0) k) * (x1 (ix2 k (j 1)) * x2 (scaleAt i (ix2 k (j 1)))) : EReal) := by
  pointwise [k0_pay342, weights]

/-- Where the four windows of a grid point lie: activations at the row block of the output, weights at its column
    block, the scales whole. -/
theorem index_facts : ∀ t : Fin cfg0.N,
    win0_0.index t 0 = win0_3.index t 0 ∧ win0_0.index t 1 = 0 ∧ win0_1.index t 0 = 0 ∧ win0_1.index t 1 = win0_3.index t 1
    ∧ win0_2.index t 0 = 0 ∧ win0_2.index t 1 = 0 ∧ ((grid0.coords t) 1).val = win0_3.index t 1 :=
  (by decide +kernel : ∀ t : Fin grid0.N,
    win0_0.index t 0 = win0_3.index t 0 ∧ win0_0.index t 1 = 0 ∧ win0_1.index t 0 = 0 ∧ win0_1.index t 1 = win0_3.index t 1
    ∧ win0_2.index t 0 = 0 ∧ win0_2.index t 1 = 0 ∧ ((grid0.coords t) 1).val = win0_3.index t 1)

/-- Where an entry of the block of weights lies in the array of codes: no block that the grid reaches is cut. -/
def weightAt (t : Fin cfg0.N) (y : S8192x512.Idx) : S8192x9280.Idx :=
  ((cfg0.win 1).blk t).view.emb fun a => ⟨(y a).val, ((cfg0.win 1).moved_iff _ y).mp (moved0_1 t y) a⟩

/-- Each array read at the place of an entry of its block gives that entry of `product`. -/
theorem product_block (a0 : Vec Ideal S3072x8192 .bf16) (a1 : Vec Ideal S8192x9280 .fp8e4m3) (a2 : Vec Ideal S64x73 .f32)
    (t : Fin cfg0.N) (j : S512x512.Idx) :
    (∑ k : Fin 8192,
      a0 (((cfg0.win 0).blk t).view.emb (show S512x8192.Idx from ix2 (j 0) k))
        * (a1 (weightAt t (show S8192x512.Idx from ix2 k (j 1)))
          * a2 (((cfg0.win 2).blk t).view.emb (scaleAt (grid0.coords t) (ix2 k (j 1))))) : EReal)
    = product a0 a1 a2 (((cfg0.win 3).blk t).view.emb j) := by
  obtain ⟨e0, e1, e2, e3, e4, e5, e8⟩ := index_facts t
  have h1 : (j 1).val < 512 := (j 1).isLt
  unfold product
  refine Finset.sum_congr rfl fun k _ => congrArg₂ _ (congrArg _ ?_) (congrArg₂ _ (congrArg _ ?_) (congrArg _ ?_))
  · funext a; apply Fin.ext
    match a with
    | ⟨0, _⟩ => show win0_0.index t (0 : Fin 2) * 512 + 1 * (j 0).val = win0_3.index t (0 : Fin 2) * 512 + 1 * (j 0).val; rw [e0]
    | ⟨1, _⟩ => show win0_0.index t (1 : Fin 2) * 8192 + 1 * k.val = k.val; omega
  · funext a; apply Fin.ext
    match a with
    | ⟨0, _⟩ => show win0_1.index t (0 : Fin 2) * 8192 + 1 * k.val = k.val; omega
    | ⟨1, _⟩ => show win0_1.index t (1 : Fin 2) * 512 + 1 * (j 1).val = win0_3.index t (1 : Fin 2) * 512 + 1 * (j 1).val; rw [e3]
  · funext a; apply Fin.ext
    match a with
    | ⟨0, _⟩ => show win0_2.index t (0 : Fin 2) * 64 + 1 * (k.val / 128) = k.val / 128; omega
    | ⟨1, _⟩ =>
      show win0_2.index t (1 : Fin 2) * 73 + 1 * ((grid0.coords t 1).val * 4 + (j 1).val / 128) = (win0_3.index t (1 : Fin 2) * 512 + 1 * (j 1).val) / 128
      omega

variable (m : (ℓ : Loc nD τ sig) → Buf (Elt Ideal) ℓ) (ρ : Dev nD → PrngReg)

/-- The staged block of weights, entry by entry. -/
theorem staged_eq (c : Dev nD) (t : Fin cfg0.N) (y : S8192x512.Idx) : X0_1 m c t y = V m c main_arg1 (weightAt t y) := by
  unfold X0_1 Pipeline.Window.fill
  rw [dif_pos (moved0_1 t y)]
  rfl

/-- What a grid point writes back is its block of `product`. -/
theorem flushed_eq (c : Dev nD) (t : Fin cfg0.N) :
    (dats m 0 c).flushed 3 t = ((cfg0.win 3).blk t).view.read (Elt Ideal)
      (product (V m c main_arg0) (V m c main_arg1) (V m c main_arg2)) := by
  rw [flushed3_A, out_A, show X0_1 m c t = fun y => V m c main_arg1 (weightAt t y) from funext (staged_eq m c t)]
  funext j
  change S512x512.Idx at j
  show k0_pay342 _ _ j = _
  rw [block_apply]
  exact product_block (V m c main_arg0) (V m c main_arg1) (V m c main_arg2) t j

/-- Some grid point has any given block of the output. -/
theorem index_surj : ∀ (a : Fin 6) (b : Fin 18), ∃ t : Fin cfg0.N, (cfg0.win 3).flush t = true ∧ win0_3.index t 0 = a.val ∧ win0_3.index t 1 = b.val :=
  (by decide +kernel : ∀ (a : Fin 6) (b : Fin 18), ∃ t : Fin grid0.N, (cfg0.win 3).flush t = true ∧ win0_3.index t 0 = a.val ∧ win0_3.index t 1 = b.val)

/-- Every entry of the array is in the block of some grid point. -/
theorem covered (i : S3072x9216.Idx) :
    ∃ t : Fin cfg0.N, (cfg0.win 3).flush t = true ∧ i ∈ ((cfg0.win 3).blk t).view.set := by
  have h0 : (i 0).val < 3072 := (i 0).isLt
  have h1 : (i 1).val < 9216 := (i 1).isLt
  obtain ⟨t, hf, e0, e1⟩ := index_surj ⟨(i 0).val / 512, by omega⟩ ⟨(i 1).val / 512, by omega⟩
  have e0' : win0_3.index t (0 : Fin 2) = (i 0).val / 512 := e0
  have e1' : win0_3.index t (1 : Fin 2) = (i 1).val / 512 := e1
  refine ⟨t, hf, ?_⟩
  have h := ((cfg0.win 3).blk t).view.emb_mem_set (show S512x512.Idx from ix2 ⟨(i 0).val % 512, by omega⟩ ⟨(i 1).val % 512, by omega⟩)
  have he : ((cfg0.win 3).blk t).view.emb (show S512x512.Idx from ix2 ⟨(i 0).val % 512, by omega⟩ ⟨(i 1).val % 512, by omega⟩) = i := by
    funext a; apply Fin.ext
    match a with
    | ⟨0, _⟩ => show win0_3.index t (0 : Fin 2) * 512 + 1 * ((i 0).val % 512) = (i 0).val; omega
    | ⟨1, _⟩ => show win0_3.index t (1 : Fin 2) * 512 + 1 * ((i 1).val % 512) = (i 1).val; omega
  rwa [he] at h

/-- The array after the run. -/
theorem final (c : Dev nD) : (dats m 0 c).arrAt 3 cfg0.N
    = product (m ((c : Thread nD τ).loc main_arg0)) (m ((c : Thread nD τ).loc main_arg1)) (m ((c : Thread nD τ).loc main_arg2)) :=
  ((dats m 0 c).arrAt_eq_of_cover 3 (product (V m c main_arg0) (V m c main_arg1) (V m c main_arg2)) (fun t _ => flushed_eq m c t) covered).trans
    (by rw [V_main_arg0, V_main_arg1, V_main_arg2])

end Cert.GemmInIdeal.Value

end
-- ==== Proof.QuantMath.lean ====
/-
  The quantisation of one row, over the extended reals.

  A row `x` of 8192 activations is normed (divided by the root of its mean square, times the weights `w`), cut into 64
  groups of 128 lanes, and each group gets a power of two as its scale; a code is the normed activation over the scale,
  clipped to ±448.
-/
module

public import proofs.«01_k».proof.QuantInIdeal
public import Idealize.ShloMosaic.Lib.Pointwise

@[expose] public section

noncomputable section

namespace Cert.Quant

open Cert.QuantInIdeal Idealize.ShloMosaic

/-- The group of a lane. -/
def grp (k : Fin 8192) : Fin 64 := ⟨k.val / 128, by omega⟩

/-- Lane `l` of group `g`. -/
def lane (g : Fin 64) (l : Fin 128) : Fin 8192 := ⟨g.val * 128 + l.val, by omega⟩

/-- One over the root of the mean square of a row. -/
def factor (x : Fin 8192 → EReal) : EReal :=
  Ideal.rsqrt (Ideal.div (∑ k, x k * x k) (Ideal.ofBits .f32 0x46000000#32) + Ideal.ofBits .f32 0x3727C5AC#32)

/-- A normed activation, from the factor of its row. -/
def scaled (f : EReal) (x w : EReal) : EReal := x * f * w

/-- The largest magnitude of a group. -/
def amax (v : Fin 128 → EReal) : EReal :=
  Finset.fold max (Ideal.ofBits .f32 0xFF800000#32) (fun l => FloatOps.absf (F := Ideal) (φ := .f32) (v l)) Finset.univ

/-- The exponents of the scales of many groups, whose largest magnitudes are `v`: one over the whole part of the binary
    logarithm of `v / 448`, zero for a group of zeros. -/
def expos {s : Shape} (v : FVec Ideal s .f32) : FVec Ideal s .f32 :=
  select (cmpf .oeq v (broadcast s (Scalar.ofBits (F := Ideal) .f32 0x00000000#32))) (broadcast s (Scalar.ofBits (F := Ideal) .f32 0x00000000#32))
    (addf (floor (mulf (log (mulf v (broadcast s (Scalar.ofBits (F := Ideal) .f32 0x3B124925#32)))) (broadcast s (Scalar.ofBits (F := Ideal) .f32 0x3FB8AA3B#32))))
      (broadcast s (Scalar.ofBits (F := Ideal) .f32 0x3F800000#32)))

/-- The exponent of the scale of a group whose largest magnitude is `a`. -/
def expo (a : EReal) : EReal := expos (s := S32x1) (fun _ => a) (ix2 0 0)

theorem expos_apply {s : Shape} (v : FVec Ideal s .f32) (j : s.Idx) : expos v j = expo (v j) := rfl

/-- Two to the power `-e`. -/
def inverse (e : EReal) : EReal := exp2 (subf (broadcast S32x1 (Scalar.ofBits (F := Ideal) .f32 0x00000000#32)) (fun _ => e)) (ix2 0 0)

/-- Two to the power `e`. -/
def power (e : EReal) : EReal := exp2 (F := Ideal) (φ := .f32) (s := S32x1) (fun _ => e) (ix2 0 0)

/-- The product clipped to ±448. -/
def clipped (v i : EReal) : EReal := min (Ideal.ofBits .f32 0x43E00000#32) (max (Ideal.ofBits .f32 0xC3E00000#32) (v * i))

variable (x w : Fin 8192 → EReal)

/-- The normed row. -/
def normed (k : Fin 8192) : EReal := scaled (factor x) (x k) (w k)

/-- The exponents of the row. -/
def exponent (g : Fin 64) : EReal := expo (amax fun l => normed x w (lane g l))

/-- The scales of the row. -/
def scale (g : Fin 64) : EReal := power (exponent x w g)

/-- The codes of the row. -/
def code (k : Fin 8192) : EReal := clipped (normed x w k) (inverse (exponent x w (grp k)))

/-- The row dequantised. -/
def deq (k : Fin 8192) : EReal := code x w k * scale x w (grp k)

/-- The four arrays of the call: codes, -/
def codes (a0 : Vec Ideal S3072x8192 .bf16) (a1 : Vec Ideal S1x8192 .bf16) : Vec Ideal S3072x8192 .fp8e4m3 := fun j =>
  code (fun k => a0 (ix2 (j 0) k)) (fun k => a1 (ix2 0 k)) (j 1)

/-- scales, -/
def scales (a0 : Vec Ideal S3072x8192 .bf16) (a1 : Vec Ideal S1x8192 .bf16) : Vec Ideal S3072x64 .f32 := fun j =>
  scale (fun k => a0 (ix2 (j 0) k)) (fun k => a1 (ix2 0 k)) (j 1)

/-- dequantised activations, -/
def deqs (a0 : Vec Ideal S3072x8192 .bf16) (a1 : Vec Ideal S1x8192 .bf16) : Vec Ideal S3072x8192 .bf16 := fun j =>
  deq (fun k => a0 (ix2 (j 0) k)) (fun k => a1 (ix2 0 k)) (j 1)

/-- and the last 64 columns of their product with the dequantised weights. -/
def steps (a0 : Vec Ideal S3072x8192 .bf16) (a1 : Vec Ideal S1x8192 .bf16) (a2 : Vec Ideal S8192x9280 .fp8e4m3) (a3 : Vec Ideal S64x73 .f32) : Vec Ideal S3072x64 .f32 := fun j =>
  have hj : (j 1).val < 64 := (j 1).isLt
  (∑ k : Fin 8192, deq (fun k => a0 (ix2 (j 0) k)) (fun k => a1 (ix2 0 k)) k * (a2 (ix2 k ⟨9216 + (j 1).val, by omega⟩) * a3 (ix2 (grp k) 72)) : EReal)

end Cert.Quant
end
-- ==== Proof.QuantRef.lean ====
/-
  The reference of the quantisation computes the rows of `QuantMath`.
-/
module

public import proofs.«01_k».proof.Proof.QuantMath
public import proofs.«01_k».proof.Proof.Gen.RefQuantIdeal.Value

@[expose] public section

-- the literal extents of the arrays are unfolded by the elaborator
set_option maxRecDepth 16384

noncomputable section

namespace Cert.Quant

open Cert.RefQuantIdeal Cert.RefQuantIdeal.Gen Idealize.ShloMosaic

variable (a0 : Vec Ideal S3072x8192 .bf16) (a1 : Vec Ideal S1x8192 .bf16)

theorem ref_normed (r : Fin 3072) (n : Fin 8192) : k0_pay2 a0 a1 (ix2 r n) = normed (fun k => a0 (ix2 r k)) (fun k => a1 (ix2 0 k)) n := by
  pointwise [k0_pay2]
  rfl

/-- The largest magnitudes of the groups of an array. -/
def maxima (v : FVec Ideal S3072x8192 .f32) : FVec Ideal S3072x64 .f32 :=
  multiReduction .maximumf [2] S3072x64 (absf (shapeCast S3072x64x128 v shapeCasts_S3072x8192_S3072x64x128)) 0xFF800000#32 reduces_S3072x64x128_S3072x64 (.inl rfl) rfl

theorem maxima_apply (v : FVec Ideal S3072x8192 .f32) (r : Fin 3072) (g : Fin 64) :
    maxima v (ix2 r g) = amax fun l => v (ix2 r (lane g l)) := by
  pointwise [maxima, amax, lane]

theorem pay3_eq : k0_pay3 a0 a1 = expos (maxima (k0_pay2 a0 a1)) := rfl

theorem ref_exponent (r : Fin 3072) (g : Fin 64) : k0_pay3 a0 a1 (ix2 r g) = exponent (fun k => a0 (ix2 r k)) (fun k => a1 (ix2 0 k)) g := by
  rw [pay3_eq, expos_apply, maxima_apply]
  simp only [ref_normed]
  rfl

theorem ref_scale (r : Fin 3072) (g : Fin 64) : k0_pay4 a0 a1 (ix2 r g) = scale (fun k => a0 (ix2 r k)) (fun k => a1 (ix2 0 k)) g :=
  congrArg power (ref_exponent a0 a1 r g)

theorem ref_inverse (r : Fin 3072) (g : Fin 64) : k0_pay5 a0 a1 (ix2 r g) = inverse (exponent (fun k => a0 (ix2 r k)) (fun k => a1 (ix2 0 k)) g) :=
  congrArg inverse (ref_exponent a0 a1 r g)

/-- The lane number over 128, as the words of the reference compute it (a division rounded down). -/
def groupWord (n : Fin 8192) : BitVec 32 :=
  Scalar.select
    (IntOp.andi
      (IntOp.cmpi CmpIPredicate.ne
        (IntOp.subi (BitVec.setWidth 32 (IntOp.cmpi CmpIPredicate.sgt (BitVec.ofNat 32 n.val) 0#32))
          (BitVec.setWidth 32 (IntOp.cmpi CmpIPredicate.slt (BitVec.ofNat 32 n.val) 0#32)))
        (Scalar.subi (Scalar.extui (Scalar.cmpi CmpIPredicate.sgt 128#32 0#32))
          (Scalar.extui (Scalar.cmpi CmpIPredicate.slt 128#32 0#32))))
      (IntOp.cmpi CmpIPredicate.ne (IntOp.remsi ArithUnit.vector (BitVec.ofNat 32 n.val) 128#32) 0#32))
    (IntOp.subi (IntOp.divsi ArithUnit.vector (BitVec.ofNat 32 n.val) 128#32) 1#32)
    (IntOp.divsi ArithUnit.vector (BitVec.ofNat 32 n.val) 128#32)

set_option maxHeartbeats 0 in
theorem groupWord_eq : ∀ n : Fin 8192, groupWord n = BitVec.ofNat 32 (n.val / 128) := by decide +kernel

/-- A sum over the groups against the indicator of one group is that group's term. -/
theorem pick (s : Fin 64 → EReal) (n : Fin 8192) :
    (∑ g : Fin 64, s g * FloatOps.sitofp (F := Ideal) FTy.f32 (BitVec.setWidth 32 (IntOp.cmpi CmpIPredicate.eq (groupWord n) (BitVec.ofNat 32 g.val)))) = s (grp n) := by
  rw [groupWord_eq]
  rw [Finset.sum_eq_single (grp n)]
  · have h : IntOp.cmpi CmpIPredicate.eq (BitVec.ofNat 32 (n.val / 128)) (BitVec.ofNat 32 (grp n).val) = 1#1 := by
      simp [IntOp.cmpi, grp]
    rw [h]
    have : FloatOps.sitofp (F := Ideal) FTy.f32 (BitVec.setWidth 32 1#1) = (1 : EReal) := by
      simp [FloatOps.sitofp]
    rw [this, mul_one]
  · intro g _ hg
    have hn : n.val < 8192 := n.isLt
    have hg' : g.val < 64 := g.isLt
    have hne : BitVec.ofNat 32 (n.val / 128) ≠ BitVec.ofNat 32 g.val := by
      intro h
      have := congrArg BitVec.toNat h
      simp only [BitVec.toNat_ofNat] at this
      exact hg (Fin.ext (by show g.val = n.val / 128; omega))
    have h : IntOp.cmpi CmpIPredicate.eq (BitVec.ofNat 32 (n.val / 128)) (BitVec.ofNat 32 g.val) = 0#1 := by
      show BitVec.ofBool (BitVec.ofNat 32 (n.val / 128) == BitVec.ofNat 32 g.val) = 0#1
      rw [beq_eq_false_iff_ne.mpr hne]; rfl
    rw [h]
    have : FloatOps.sitofp (F := Ideal) FTy.f32 (BitVec.setWidth 32 0#1) = (0 : EReal) := by
      simp [FloatOps.sitofp]
    rw [this, mul_zero]
  · intro h; exact absurd (Finset.mem_univ _) h

theorem pay9_apply (v15 : FVec Ideal S3072x8192 .f32) (v34 : FVec Ideal S3072x64 .f32) (r : Fin 3072) (n : Fin 8192) :
    k0_pay9 v15 v34 k0_pay6 128#32 k0_pay7 k0_pay8 0#32 (ix2 r n) = clipped (v15 (ix2 r n)) (v34 (ix2 r (grp n))) := by
  refine Eq.trans ?_ (congrArg (clipped (v15 (ix2 r n))) (pick (fun g => v34 (ix2 r g)) n))
  pointwise [k0_pay9, k0_pay6, k0_pay7, k0_pay8]
  rfl

theorem pay14_apply (v76 : FVec Ideal S3072x8192 .fp8e4m3) (v77 : FVec Ideal S3072x64 .bf16) (r : Fin 3072) (n : Fin 8192) :
    k0_pay14 v76 v77 k0_pay11 128#32 k0_pay12 k0_pay13 (Scalar.extui (Scalar.cmpi .sgt 128#32 0#32)) (ix2 r n) = (v76 (ix2 r n) * v77 (ix2 r (grp n)) : EReal) := by
  refine Eq.trans ?_ (congrArg (fun s : EReal => (v76 (ix2 r n) * s : EReal)) (pick (fun g => v77 (ix2 r g)) n))
  pointwise [k0_pay14, k0_pay11, k0_pay12, k0_pay13]
  rfl

variable (a2 : Vec Ideal S8192x9280 .fp8e4m3) (a3 : Vec Ideal S64x73 .f32)

theorem hz : (![0, 0] : Fin 2 → Nat) = fun _ => 0 := funext fun a => by fin_cases a <;> rfl

theorem ref_codes : Cert.RefQuantIdeal.Value.G4 (F := Ideal) a0 a1 a2 a3 = codes a0 a1 := by
  funext j
  obtain ⟨r, n, rfl⟩ : ∃ (r : Fin 3072) (n : Fin 8192), j = ix2 r n := ⟨j 0, j 1, eq_ix2 j⟩
  unfold Cert.RefQuantIdeal.Value.G4 k0_pay17
  rw [View.ld_unit_zero (S := S3072x8192) hz _ a0, View.ld_unit_zero (S := S1x8192) hz _ a1, pay9_apply, ref_normed, ref_inverse]
  rfl

theorem ref_scales : Cert.RefQuantIdeal.Value.G5 (F := Ideal) a0 a1 a2 a3 = scales a0 a1 := by
  funext j
  obtain ⟨r, n, rfl⟩ : ∃ (r : Fin 3072) (n : Fin 64), j = ix2 r n := ⟨j 0, j 1, eq_ix2 j⟩
  unfold Cert.RefQuantIdeal.Value.G5 k0_pay16
  rw [View.ld_unit_zero (S := S3072x8192) hz _ a0, View.ld_unit_zero (S := S1x8192) hz _ a1, ref_scale]
  rfl

theorem ref_deqs : Cert.RefQuantIdeal.Value.G6 (F := Ideal) a0 a1 a2 a3 = deqs a0 a1 := by
  funext j
  obtain ⟨r, n, rfl⟩ : ∃ (r : Fin 3072) (n : Fin 8192), j = ix2 r n := ⟨j 0, j 1, eq_ix2 j⟩
  unfold Cert.RefQuantIdeal.Value.G6 k0_pay19 k0_pay20 k0_pay21
  rw [pay14_apply]
  have h4 : k0_pay17 a0 a1 a2 a3 (ix2 r n) = codes a0 a1 (ix2 r n) := congrFun (ref_codes a0 a1 a2 a3) (ix2 r n)
  have h5 : k0_pay16 a0 a1 a2 a3 (ix2 r (grp n)) = scales a0 a1 (ix2 r (grp n)) := congrFun (ref_scales a0 a1 a2 a3) (ix2 r (grp n))
  have h6 : k0_pay18 a0 a1 a2 a3 (ix2 r (grp n)) = k0_pay16 a0 a1 a2 a3 (ix2 r (grp n)) := by unfold k0_pay18; generalize k0_pay16 a0 a1 a2 a3 = v; rfl
  rw [h4, h6, h5]
  rfl

theorem ref_steps : Cert.RefQuantIdeal.Value.G7 (F := Ideal) a0 a1 a2 a3 = steps a0 a1 a2 a3 := by
  funext j
  obtain ⟨r, n, rfl⟩ : ∃ (r : Fin 3072) (n : Fin 64), j = ix2 r n := ⟨j 0, j 1, eq_ix2 j⟩
  unfold Cert.RefQuantIdeal.Value.G7
  have key : ∀ k : Fin 8192, Cert.RefQuantIdeal.Value.G6 (F := Ideal) a0 a1 a2 a3 (ix2 r k) = deqs a0 a1 (ix2 r k) := fun k => by rw [ref_deqs]
  unfold Cert.RefQuantIdeal.Value.G6 at key
  pointwise [k0_pay1, k0_pay15]
  refine Finset.sum_congr rfl fun k _ => congrArg₂ _ (key k) (congrArg₂ _ rfl (congrArg _ ?_))
  have hn : n.val < 64 := n.isLt
  funext a; apply Fin.ext
  match a with
  | ⟨0, _⟩ => rfl
  | ⟨1, _⟩ => show (9216 + n.val) / 128 = 72; omega

end Cert.Quant
end
-- ==== Proof.QuantTrip.lean ====
/-
  One trip of the quantisation's loop: 32 rows.

  The trip reads its 32 rows group by group (64 groups of 128 lanes).  It sums the squares of the groups lane by lane,
  then takes each group's codes and scale.  Everything it stores is a value of `QuantMath` for the row.
-/
module

public import proofs.«01_k».proof.Proof.QuantMath
public import proofs.«01_k».proof.Proof.Gen.QuantInIdeal.Value

@[expose] public section

-- the literal extents of the blocks are unfolded by the elaborator
set_option maxRecDepth 16384

noncomputable section

namespace Cert.QuantInIdeal.Value

open Cert.QuantInIdeal Cert.QuantInIdeal.Gen Cert.Quant Idealize.ShloMosaic Idealize.ShloMosaic.TcCoe Idealize.SL.Sem

/-! ## The values of one group -/

section group
variable (f : FVec Ideal S32x1 .f32) (v : Vec Ideal S32x128 .bf16) (w : Vec Ideal S1x128 .bf16)

theorem group_normed (a : Fin 32) (l : Fin 128) : k0_pay131 f v w (ix2 a l) = scaled (f (ix2 a 0)) (v (ix2 a l)) (w (ix2 0 l)) := by
  pointwise [k0_pay131]
  rfl

/-- The largest magnitude of each row of a group. -/
def rowMax (v : FVec Ideal S32x128 .f32) : FVec Ideal S32x1 .f32 :=
  shapeCast S32x1 (multiReduction .maximumf [1] S32 (absf v) 0xFF800000#32 reduces_S32x128_S32 (.inl rfl) rfl) shapeCasts_S32_S32x1

theorem rowMax_apply (v : FVec Ideal S32x128 .f32) (a : Fin 32) : rowMax v (ix2 a 0) = amax fun l => v (ix2 a l) := by
  pointwise [rowMax, amax]

theorem group_exponent_eq : k0_pay132 f v w = expos (rowMax (k0_pay131 f v w)) := rfl

theorem group_exponent (a : Fin 32) : k0_pay132 f v w (ix2 a 0) = expo (amax fun l => scaled (f (ix2 a 0)) (v (ix2 a l)) (w (ix2 0 l))) := by
  rw [group_exponent_eq, expos_apply, rowMax_apply]
  simp only [group_normed]

theorem group_scale (a : Fin 32) : k0_pay133 f v w (ix2 a 0) = power (expo (amax fun l => scaled (f (ix2 a 0)) (v (ix2 a l)) (w (ix2 0 l)))) :=
  congrArg power (group_exponent f v w a)

/-- The codes from the normed values and the exponents. -/
def codesOf (v : FVec Ideal S32x128 .f32) (e : FVec Ideal S32x1 .f32) : FVec Ideal S32x128 .fp8e4m3 :=
  truncf .fp8e4m3 (minimumf (broadcast S32x128 (Scalar.ofBits (F := Ideal) .f32 0x43E00000#32)) (maximumf (broadcast S32x128 (Scalar.ofBits (F := Ideal) .f32 0xC3E00000#32))
    (mulf v (broadcastTo S32x128 (exp2 (subf (broadcast S32x1 (Scalar.ofBits (F := Ideal) .f32 0x00000000#32)) e)) broadcasts_S32x1_S32x128)))) bitsLt_fp8e4m3_f32

theorem codesOf_apply (v : FVec Ideal S32x128 .f32) (e : FVec Ideal S32x1 .f32) (a : Fin 32) (l : Fin 128) :
    codesOf v e (ix2 a l) = clipped (v (ix2 a l)) (inverse (e (ix2 a 0))) := by
  pointwise [codesOf, clipped, inverse]

theorem group_code (a : Fin 32) (l : Fin 128) : k0_pay134 f v w (ix2 a l) =
    clipped (scaled (f (ix2 a 0)) (v (ix2 a l)) (w (ix2 0 l))) (inverse (expo (amax fun l => scaled (f (ix2 a 0)) (v (ix2 a l)) (w (ix2 0 l))))) := by
  refine (codesOf_apply (k0_pay131 f v w) (k0_pay132 f v w) a l).trans ?_
  rw [group_normed, group_exponent]

theorem group_deq (s : FVec Ideal S32x1 .f32) (q : FVec Ideal S32x128 .fp8e4m3) (a : Fin 32) (l : Fin 128) :
    k0_pay135 s q (ix2 a l) = (q (ix2 a l) * s (ix2 a 0) : EReal) := by
  pointwise [k0_pay135]

/-- The factor of each row from its lane-by-lane sums of squares. -/
def factorOf (v : FVec Ideal S32x128 .f32) : FVec Ideal S32x1 .f32 :=
  rsqrt (addf (mulf (shapeCast S32x1 (multiReduction .add [1] S32 v 0x00000000#32 reduces_S32x128_S32 (.inl rfl) rfl) shapeCasts_S32_S32x1)
    (broadcast S32x1 (Scalar.ofBits (F := Ideal) .f32 0x39000000#32))) (broadcast S32x1 (Scalar.ofBits (F := Ideal) .f32 0x3727C5AC#32)))

theorem factorOf_apply (v : FVec Ideal S32x128 .f32) (a : Fin 32) :
    factorOf v (ix2 a 0) = Ideal.rsqrt ((∑ l : Fin 128, v (ix2 a l)) * Ideal.ofBits .f32 0x39000000#32 + Ideal.ofBits .f32 0x3727C5AC#32) := by
  pointwise [factorOf]

end group

/-- Multiplying by 1/8192 is dividing by 8192. -/
theorem mean_eq (s : EReal) : s * Ideal.ofBits .f32 0x39000000#32 = Ideal.div s (Ideal.ofBits .f32 0x46000000#32) := by
  have h1 : Ideal.ofBits .f32 0x39000000#32 = ((1 / 8192 : ℝ) : EReal) := by
    simp [Ideal.ofBits, Ideal.ieee, -EReal.coe_mul]; norm_num
  have h2 : Ideal.ofBits .f32 0x46000000#32 = ((8192 : ℝ) : EReal) := by
    simp [Ideal.ofBits, Ideal.ieee, -EReal.coe_mul]; norm_num
  rw [h1, h2, Ideal.div_coe (by norm_num)]

/-! ## The sum of squares -/

/-- The row of the block that row `a` of trip `k` is. -/
def rowOf (k : Fin k0_t1_loop.trips) (a : Fin 32) : Fin 128 :=
  ⟨32 * k.val + a.val, by have h : k0_t1_loop.trips ≤ 4 := k0_t1_abs.2.1; omega⟩

/-- The first row of trip `k`, as its words compute it. -/
theorem row_word (k : Fin k0_t1_loop.trips) : (Scalar.indexCast (Scalar.muli (Scf.iv 0#32 1#32 k.val) 32#32)).toNat = 32 * k.val := by
  have h : k0_t1_loop.trips ≤ 4 := k0_t1_abs.2.1
  have hk := k.isLt
  generalize k.val = n at *
  have : n < 4 := by omega
  interval_cases n <;> rfl

variable {arg1 : Memref sig .tc .vmem S128x8192 .bf16} (harg1 : arg1.IsWhole) {arg2 : Memref sig .tc .vmem S1x8192 .bf16} (harg2 : arg2.IsWhole)
  (x0 : Vec Ideal S128x8192 .bf16) (x1 : Vec Ideal S1x8192 .bf16) (k : Fin k0_t1_loop.trips)

/-- A load of group `g` of the rows of the trip. -/
theorem load_rows {off : Fin 2 → ℕ} {inb : ∀ a, off a + S32x128.size a ≤ S128x8192.size a} (h0 : off 0 = 32 * k.val) {g : Fin 64} (h1 : off 1 = 128 * g.val) (a : Fin 32) (l : Fin 128) :
    arg1.view.readAt (Elt Ideal) (Rect.unit (s := S128x8192) off S32x128.size inb).toLoadRect (harg1.unread x0) (ix2 a l) = x0 (ix2 (rowOf k a) (lane g l)) := by
  have r := harg1.read_unread (Val := Elt Ideal) x0
  rw [View.readAt_eq_ld, r]
  refine congrArg x0 ?_
  funext b; apply Fin.ext
  match b with
  | ⟨0, _⟩ => show off 0 + 1 * a.val = 32 * k.val + a.val; omega
  | ⟨1, _⟩ => show off 1 + 1 * l.val = g.val * 128 + l.val; omega

/-- A load of group `g` of the norm's weights. -/
theorem load_weights {o : ℕ} {inb : ∀ a, (![0, o] : Fin 2 → ℕ) a + S1x128.size a ≤ S1x8192.size a} {g : Fin 64} (h1 : o = 128 * g.val) (l : Fin 128) :
    arg2.view.readAt (Elt Ideal) (Rect.unit (s := S1x8192) ![0, o] S1x128.size inb).toLoadRect (harg2.unread x1) (ix2 0 l) = x1 (ix2 0 (lane g l)) := by
  have r := harg2.read_unread (Val := Elt Ideal) x1
  rw [View.readAt_eq_ld, r]
  refine congrArg x1 ?_
  funext b; apply Fin.ext
  match b with
  | ⟨0, _⟩ => rfl
  | ⟨1, _⟩ => show o + 1 * l.val = g.val * 128 + l.val; omega

/-- After `n` groups: each lane holds the sum of the squares of its first `n` activations. -/
def Summed (n : ℕ) (A : FVec Ideal S32x128 .f32) : Prop :=
  ∀ (a : Fin 32) (l : Fin 128), A (ix2 a l) = ∑ g ∈ Finset.univ.filter (fun g : Fin 64 => g.val < n), (x0 (ix2 (rowOf k a) (lane g l)) * x0 (ix2 (rowOf k a) (lane g l)) : EReal)

theorem summed_zero {A : FVec Ideal S32x128 .f32} (hA : A = broadcast S32x128 (Scalar.ofBits (F := Ideal) .f32 0x00000000#32)) : Summed x0 k 0 A := by
  intro a l
  rw [hA]
  refine Ideal.ofBits_zero_f32.trans ?_
  simp

theorem summed_step {n : ℕ} {A B : FVec Ideal S32x128 .f32} {off : Fin 2 → ℕ} {inb : ∀ a, off a + S32x128.size a ≤ S128x8192.size a}
    (hB : B = addf A (mulf (extf (φ := .bf16) .f32 (arg1.view.readAt (Elt Ideal) (Rect.unit (s := S128x8192) off S32x128.size inb).toLoadRect (harg1.unread x0)) bitsLt_bf16_f32)
      (extf (φ := .bf16) .f32 (arg1.view.readAt (Elt Ideal) (Rect.unit (s := S128x8192) off S32x128.size inb).toLoadRect (harg1.unread x0)) bitsLt_bf16_f32)))
    (h0 : off 0 = 32 * k.val) (h1 : off 1 = 128 * n) (hn : n < 64) (hA : Summed x0 k n A) : Summed x0 k (n + 1) B := by
  intro a l
  have e : Finset.univ.filter (fun g : Fin 64 => g.val < n + 1) = insert ⟨n, hn⟩ (Finset.univ.filter (fun g : Fin 64 => g.val < n)) := by
    ext g; simp [Fin.ext_iff]; omega
  rw [e, Finset.sum_insert (by simp), hB, add_comm, ← hA a l, ← load_rows harg1 x0 k (inb := inb) h0 (g := ⟨n, hn⟩) h1 a l]
  rfl

theorem sum_rows {A : FVec Ideal S32x128 .f32} (hA : Summed x0 k 64 A) (a : Fin 32) :
    (∑ l : Fin 128, A (ix2 a l)) = ∑ n : Fin 8192, (x0 (ix2 (rowOf k a) n) * x0 (ix2 (rowOf k a) n) : EReal) := by
  generalize hx : (fun n : Fin 8192 => (x0 (ix2 (rowOf k a) n) * x0 (ix2 (rowOf k a) n) : EReal)) = q
  have h : ∀ l : Fin 128, A (ix2 a l) = ∑ g : Fin 64, q (lane g l) := by
    intro l
    refine (hA a l).trans ?_
    rw [Finset.filter_true_of_mem (fun g _ => g.isLt)]
    subst hx
    rfl
  have h' : (∑ n : Fin 8192, q n) = ∑ g : Fin 64, ∑ l : Fin 128, q (lane g l) := Fin.sum_univ_tiles 64 128 (by decide) q
  rw [h', Finset.sum_comm]
  exact Finset.sum_congr rfl fun l _ => h l

theorem factor_eq {A : FVec Ideal S32x128 .f32} (hA : Summed x0 k 64 A) (a : Fin 32) :
    factorOf A (ix2 a 0) = factor fun n => x0 (ix2 (rowOf k a) n) := by
  rw [factorOf_apply, mean_eq, sum_rows x0 k hA a]
  rfl

set_option maxHeartbeats 0 in
/-- The factor that the trip computes is the factor of the row. -/
theorem trip_factor (a : Fin 32) : trip_k0_t1.sl.r_6 (F := Ideal) arg1 (harg1.unread x0) k (ix2 a 0) = factor fun n => x0 (ix2 (rowOf k a) n) := by
  refine (congrFun (g := factorOf _) (Eq.refl _) (ix2 a 0)).trans (factor_eq x0 k ?_ a)
  iterate 64 refine summed_step harg1 x0 k (Eq.refl _) (row_word k) rfl (by decide) ?_
  exact summed_zero x0 k rfl

/-! ## What the trip stores -/

/-- The codes of the block's rows, -/
def blockCodes : Vec Ideal S128x8192 .fp8e4m3 := fun y => code (fun n => x0 (ix2 (y 0) n)) (fun n => x1 (ix2 0 n)) (y 1)

/-- their scales, -/
def blockScales : Vec Ideal S128x64 .f32 := fun y => scale (fun n => x0 (ix2 (y 0) n)) (fun n => x1 (ix2 0 n)) (y 1)

/-- and the rows dequantised. -/
def blockDeqs : Vec Ideal S128x8192 .bf16 := fun y => deq (fun n => x0 (ix2 (y 0) n)) (fun n => x1 (ix2 0 n)) (y 1)

section tiles
variable {off : Fin 2 → ℕ} {inb : ∀ a, off a + S32x128.size a ≤ S128x8192.size a} {o : ℕ} {inb' : ∀ a, (![0, o] : Fin 2 → ℕ) a + S1x128.size a ≤ S1x8192.size a}

/-- The values of group `g` of the trip, normed. -/
theorem tile_normed {g : Fin 64} (h0 : off 0 = 32 * k.val) (h1 : off 1 = 128 * g.val) (ho : o = 128 * g.val) (a : Fin 32) (l : Fin 128) :
    scaled (trip_k0_t1.sl.r_6 (F := Ideal) arg1 (harg1.unread x0) k (ix2 a 0))
      (arg1.view.readAt (Elt Ideal) (Rect.unit (s := S128x8192) off S32x128.size inb).toLoadRect (harg1.unread x0) (ix2 a l))
      (arg2.view.readAt (Elt Ideal) (Rect.unit (s := S1x8192) ![0, o] S1x128.size inb').toLoadRect (harg2.unread x1) (ix2 0 l))
    = normed (fun n => x0 (ix2 (rowOf k a) n)) (fun n => x1 (ix2 0 n)) (lane g l) := by
  rw [trip_factor, load_rows harg1 x0 k h0 h1, load_weights harg2 x1 ho]
  rfl

theorem tile_scale {g : Fin 64} (h0 : off 0 = 32 * k.val) (h1 : off 1 = 128 * g.val) (ho : o = 128 * g.val) (a : Fin 32) :
    k0_pay133 (trip_k0_t1.sl.r_6 (F := Ideal) arg1 (harg1.unread x0) k)
      (arg1.view.readAt (Elt Ideal) (Rect.unit (s := S128x8192) off S32x128.size inb).toLoadRect (harg1.unread x0))
      (arg2.view.readAt (Elt Ideal) (Rect.unit (s := S1x8192) ![0, o] S1x128.size inb').toLoadRect (harg2.unread x1)) (ix2 a 0)
    = scale (fun n => x0 (ix2 (rowOf k a) n)) (fun n => x1 (ix2 0 n)) g := by
  rw [group_scale]
  simp only [tile_normed harg1 harg2 x0 x1 k h0 h1 ho]
  rfl

theorem grp_lane (g : Fin 64) (l : Fin 128) : grp (lane g l) = g := by
  apply Fin.ext; show (g.val * 128 + l.val) / 128 = g.val; omega

theorem tile_code {g : Fin 64} (h0 : off 0 = 32 * k.val) (h1 : off 1 = 128 * g.val) (ho : o = 128 * g.val) (a : Fin 32) (l : Fin 128) :
    k0_pay134 (trip_k0_t1.sl.r_6 (F := Ideal) arg1 (harg1.unread x0) k)
      (arg1.view.readAt (Elt Ideal) (Rect.unit (s := S128x8192) off S32x128.size inb).toLoadRect (harg1.unread x0))
      (arg2.view.readAt (Elt Ideal) (Rect.unit (s := S1x8192) ![0, o] S1x128.size inb').toLoadRect (harg2.unread x1)) (ix2 a l)
    = code (fun n => x0 (ix2 (rowOf k a) n)) (fun n => x1 (ix2 0 n)) (lane g l) := by
  rw [group_code]
  simp only [tile_normed harg1 harg2 x0 x1 k h0 h1 ho]
  unfold code
  rw [grp_lane]
  rfl

/-- Where an entry of a stored tile lies in the block. -/
theorem tile_emb {g : Fin 64} (h0 : off 0 = 32 * k.val) (h1 : off 1 = 128 * g.val) (a : Fin 32) (l : Fin 128) :
    (Rect.unit (s := S128x8192) off S32x128.size inb).emb (ix2 a l) = ix2 (rowOf k a) (lane g l) := by
  funext b; apply Fin.ext
  match b with
  | ⟨0, _⟩ => show off 0 + 1 * a.val = 32 * k.val + a.val; omega
  | ⟨1, _⟩ => show off 1 + 1 * l.val = g.val * 128 + l.val; omega

/-- A stored tile of codes is that tile of the block's codes. -/
theorem stored_code {P : FVec Ideal S32x128 .fp8e4m3} {y : S32x128.Idx}
    (hP : P = k0_pay134 (trip_k0_t1.sl.r_6 (F := Ideal) arg1 (harg1.unread x0) k)
      (arg1.view.readAt (Elt Ideal) (Rect.unit (s := S128x8192) off S32x128.size inb).toLoadRect (harg1.unread x0))
      (arg2.view.readAt (Elt Ideal) (Rect.unit (s := S1x8192) ![0, o] S1x128.size inb').toLoadRect (harg2.unread x1)))
    (h0 : off 0 = 32 * k.val) (h1 : off 1 = o) (ho : o % 128 = 0) (hl : o / 128 < 64) :
    P y = blockCodes x0 x1 ((Rect.unit (s := S128x8192) off S32x128.size inb).emb y) := by
  obtain ⟨a, l, rfl⟩ : ∃ (a : Fin 32) (l : Fin 128), y = ix2 a l := ⟨y 0, y 1, eq_ix2 y⟩
  have e : o = 128 * (⟨o / 128, hl⟩ : Fin 64).val := by show o = 128 * (o / 128); omega
  rw [hP, tile_code harg1 harg2 x0 x1 k h0 (h1.trans e) e, tile_emb k h0 (h1.trans e)]
  rfl

/-- A stored tile of dequantised values is that tile of the block's. -/
theorem stored_deq {P : FVec Ideal S32x128 .bf16} {y : S32x128.Idx}
    (hP : P = k0_pay135 (k0_pay133 (trip_k0_t1.sl.r_6 (F := Ideal) arg1 (harg1.unread x0) k)
      (arg1.view.readAt (Elt Ideal) (Rect.unit (s := S128x8192) off S32x128.size inb).toLoadRect (harg1.unread x0))
      (arg2.view.readAt (Elt Ideal) (Rect.unit (s := S1x8192) ![0, o] S1x128.size inb').toLoadRect (harg2.unread x1)))
      (k0_pay134 (trip_k0_t1.sl.r_6 (F := Ideal) arg1 (harg1.unread x0) k)
      (arg1.view.readAt (Elt Ideal) (Rect.unit (s := S128x8192) off S32x128.size inb).toLoadRect (harg1.unread x0))
      (arg2.view.readAt (Elt Ideal) (Rect.unit (s := S1x8192) ![0, o] S1x128.size inb').toLoadRect (harg2.unread x1))))
    (h0 : off 0 = 32 * k.val) (h1 : off 1 = o) (ho : o % 128 = 0) (hl : o / 128 < 64) :
    P y = blockDeqs x0 x1 ((Rect.unit (s := S128x8192) off S32x128.size inb).emb y) := by
  obtain ⟨a, l, rfl⟩ : ∃ (a : Fin 32) (l : Fin 128), y = ix2 a l := ⟨y 0, y 1, eq_ix2 y⟩
  have e : o = 128 * (⟨o / 128, hl⟩ : Fin 64).val := by show o = 128 * (o / 128); omega
  rw [hP, group_deq, tile_code harg1 harg2 x0 x1 k h0 (h1.trans e) e, tile_scale harg1 harg2 x0 x1 k h0 (h1.trans e) e, tile_emb k h0 (h1.trans e)]
  exact congrArg (fun q : Fin 64 => (code (fun n => x0 (ix2 (rowOf k a) n)) (fun n => x1 (ix2 0 n)) (lane ⟨o / 128, hl⟩ l)
    * scale (fun n => x0 (ix2 (rowOf k a) n)) (fun n => x1 (ix2 0 n)) q : EReal)) (grp_lane ⟨o / 128, hl⟩ l).symm

/-- After `n` groups: the first `n` columns of the trip's rows of scales are the rows' scales. -/
def Scaled (n : ℕ) (A : FVec Ideal S32x64 .f32) : Prop :=
  ∀ (a : Fin 32) (q : Fin 64), q.val < n → A (ix2 a q) = scale (fun n => x0 (ix2 (rowOf k a) n)) (fun n => x1 (ix2 0 n)) q

/-- A column of scales put in place of column `n`. -/
noncomputable def putColumn (n : ℕ) (s : FVec Ideal S32x1 .f32) (A : FVec Ideal S32x64 .f32) : FVec Ideal S32x64 .f32 :=
  select (cmpi .eq trip_k0_t1.sl.v340 (broadcast S32x64 (BitVec.ofNat 32 n))) (broadcastTo S32x64 (shapeCast S32x1 s shapeCasts_S32x1_S32x1) broadcasts_S32x1_S32x64) A

theorem putColumn_apply (n : ℕ) (s : FVec Ideal S32x1 .f32) (A : FVec Ideal S32x64 .f32) (a : Fin 32) (q : Fin 64) :
    putColumn n s A (ix2 a q) = if BitVec.ofNat 32 q.val = BitVec.ofNat 32 n then s (ix2 a 0) else A (ix2 a q) := by
  pointwise [putColumn, trip_k0_t1.sl.v340]
  by_cases h : BitVec.ofNat 32 q.val = BitVec.ofNat 32 n
  · rw [if_pos h, h, show IntOp.cmpi CmpIPredicate.eq (BitVec.ofNat 32 n) (BitVec.ofNat 32 n) = 1#1 by simp [IntOp.cmpi]]
    rfl
  · rw [if_neg h, show IntOp.cmpi CmpIPredicate.eq (BitVec.ofNat 32 q.val) (BitVec.ofNat 32 n) = 0#1 by
      show BitVec.ofBool (BitVec.ofNat 32 q.val == BitVec.ofNat 32 n) = 0#1
      rw [beq_eq_false_iff_ne.mpr h]; rfl]
    rfl

theorem scaled_step {n : ℕ} {A B : FVec Ideal S32x64 .f32}
    (hB : B = putColumn n (k0_pay133 (trip_k0_t1.sl.r_6 (F := Ideal) arg1 (harg1.unread x0) k)
      (arg1.view.readAt (Elt Ideal) (Rect.unit (s := S128x8192) off S32x128.size inb).toLoadRect (harg1.unread x0))
      (arg2.view.readAt (Elt Ideal) (Rect.unit (s := S1x8192) ![0, o] S1x128.size inb').toLoadRect (harg2.unread x1))) A)
    (h0 : off 0 = 32 * k.val) (h1 : off 1 = 128 * n) (ho : o = 128 * n) (hn : n < 64) (hA : Scaled x0 x1 k n A) : Scaled x0 x1 k (n + 1) B := by
  intro a q hq
  rw [hB, putColumn_apply]
  split_ifs with h
  · have hv := congrArg BitVec.toNat h
    simp only [BitVec.toNat_ofNat] at hv
    obtain rfl : q = ⟨n, hn⟩ := Fin.ext (by show q.val = n; have := q.isLt; omega)
    exact tile_scale harg1 harg2 x0 x1 k (g := ⟨n, hn⟩) h0 h1 ho a
  · refine hA a q ?_
    rcases Nat.lt_succ_iff_lt_or_eq.mp hq with h' | h'
    · exact h'
    · exact absurd (by rw [h']) h

/-- The stored rows of scales are those of the block. -/
theorem stored_scales {off : Fin 2 → ℕ} {inb : ∀ a, off a + S32x64.size a ≤ S128x64.size a} {P : FVec Ideal S32x64 .f32} {y : S32x64.Idx}
    (h0 : off 0 = 32 * k.val) (h1 : off 1 = 0) (hP : Scaled x0 x1 k 64 P) :
    P y = blockScales x0 x1 ((Rect.unit (s := S128x64) off S32x64.size inb).emb y) := by
  obtain ⟨a, q, rfl⟩ : ∃ (a : Fin 32) (q : Fin 64), y = ix2 a q := ⟨y 0, y 1, eq_ix2 y⟩
  have e : (Rect.unit (s := S128x64) off S32x64.size inb).emb (ix2 a q) = ix2 (rowOf k a) q := by
    funext b; apply Fin.ext
    match b with
    | ⟨0, _⟩ => show off 0 + 1 * a.val = 32 * k.val + a.val; omega
    | ⟨1, _⟩ => show off 1 + 1 * q.val = q.val; omega
  rw [hP a q q.isLt, e]
  rfl

end tiles

end Cert.QuantInIdeal.Value

end
-- ==== Proof.QuantLoop.lean ====
/-
  The loop of the quantisation: after its four trips the three buffers hold the block's codes, scales and dequantised
  rows.
-/
module

public import proofs.«01_k».proof.Proof.QuantTrip

@[expose] public section

-- the literal extents of the blocks are unfolded by the elaborator
set_option maxRecDepth 16384

noncomputable section

namespace Cert.QuantInIdeal.Value

open Cert.QuantInIdeal Cert.QuantInIdeal.Gen Cert.Quant Idealize.ShloMosaic Idealize.ShloMosaic.TcCoe Idealize.SL.Sem

/-- A property of every element of a list, one element at a time. -/
theorem forall_cons {α : Type*} {p : α → Prop} {a : α} {L : List α} (h : p a) (hL : ∀ q ∈ L, p q) : ∀ q ∈ a :: L, p q := by
  intro q hq
  rcases List.mem_cons.mp hq with rfl | hq
  · exact h
  · exact hL q hq

variable (𝒱 : Variants) (c : Dev nD) (bd : Option 𝒱.V) (i : grid0.Coords) (arg1 : Memref sig .tc .vmem S128x8192 .bf16) (harg1 : arg1.IsWhole) (arg2 : Memref sig .tc .vmem S1x8192 .bf16) (harg2 : arg2.IsWhole) (arg3 : Memref sig .tc .vmem S8192x128 .fp8e4m3) (harg3 : arg3.IsWhole) (arg4 : Memref sig .tc .smem S64x73 .f32) (harg4 : arg4.IsWhole) (arg5 : Memref sig .tc .vmem S128x8192 .fp8e4m3) (harg5 : arg5.IsWhole) (arg6 : Memref sig .tc .vmem S128x64 .f32) (harg6 : arg6.IsWhole) (arg7 : Memref sig .tc .vmem S128x8192 .bf16) (harg7 : arg7.IsWhole) (arg8 : Memref sig .tc .vmem S128x64 .f32) (harg8 : arg8.IsWhole) (arg9 : Memref sig .tc .vmem S8192x128 .bf16) (harg9 : arg9.IsWhole)

  (x0 : Vec Ideal S128x8192 .bf16) (x1 : Vec Ideal S1x8192 .bf16) (k : Fin k0_t1_loop.trips)

set_option maxHeartbeats 0 in
/-- Every tile of codes that a trip stores is a tile of the block's codes. -/
theorem trip_codes : ∀ q ∈ (trip_k0_t1 (F := Ideal) 𝒱 c bd i arg1 harg1 arg2 harg2 arg3 harg3 arg4 harg4 arg5 harg5 arg6 harg6 arg7 harg7 arg8 harg8 arg9 harg9 (harg1.unread x0) (harg2.unread x1) k).1, ∀ y, q.2 y = blockCodes x0 x1 (q.1.emb y) := by
  unfold trip_k0_t1
  dsimp only
  iterate 64 refine forall_cons (fun y => stored_code harg1 harg2 x0 x1 k (Eq.refl _) (row_word k) rfl (by decide) (by decide)) ?_
  exact fun q hq => absurd hq List.not_mem_nil

set_option maxHeartbeats 0 in
/-- Every tile of dequantised rows that a trip stores is a tile of the block's. -/
theorem trip_deqs : ∀ q ∈ (trip_k0_t1 (F := Ideal) 𝒱 c bd i arg1 harg1 arg2 harg2 arg3 harg3 arg4 harg4 arg5 harg5 arg6 harg6 arg7 harg7 arg8 harg8 arg9 harg9 (harg1.unread x0) (harg2.unread x1) k).2.2.1, ∀ y, q.2 y = blockDeqs x0 x1 (q.1.emb y) := by
  unfold trip_k0_t1
  dsimp only
  iterate 64 refine forall_cons (fun y => stored_deq harg1 harg2 x0 x1 k (Eq.refl _) (row_word k) rfl (by decide) (by decide)) ?_
  exact fun q hq => absurd hq List.not_mem_nil

set_option maxHeartbeats 0 in
/-- The rows of scales that a trip stores are the block's. -/
theorem trip_scales : ∀ q ∈ (trip_k0_t1 (F := Ideal) 𝒱 c bd i arg1 harg1 arg2 harg2 arg3 harg3 arg4 harg4 arg5 harg5 arg6 harg6 arg7 harg7 arg8 harg8 arg9 harg9 (harg1.unread x0) (harg2.unread x1) k).2.1, ∀ y, q.2 y = blockScales x0 x1 (q.1.emb y) := by
  unfold trip_k0_t1
  dsimp only
  have h : Scaled x0 x1 k 64 (k0_pay2 (trip_k0_t1.sl.r_203 arg1 arg2 (harg1.unread x0) (harg2.unread x1) k) (trip_k0_t1.sl.r_204 arg1 arg2 (harg1.unread x0) (harg2.unread x1) k) (k0_pay547 trip_k0_t1.sl.v340)) := by
    iterate 64 refine scaled_step harg1 harg2 x0 x1 k (Eq.refl _) (row_word k) rfl rfl (by decide) ?_
    exact fun a q hq => absurd hq (Nat.not_lt_zero _)
  exact forall_cons (fun y => stored_scales (off := k0_off65 k) (inb := k0_off65_inb k) x0 x1 k (row_word k) rfl h) (fun q hq => absurd hq List.not_mem_nil)

/-- The pieces of the first `n` trips: tiles of the block's codes, scales and dequantised rows. -/
theorem loop_pieces : ∀ n, n ≤ k0_t1_loop.trips →
    (∀ q ∈ (pb_k0_t1 (F := Ideal) 𝒱 c bd i arg1 harg1 arg2 harg2 arg3 harg3 arg4 harg4 arg5 harg5 arg6 harg6 arg7 harg7 arg8 harg8 arg9 harg9 (harg1.unread x0) (harg2.unread x1) n).1, ∀ y, q.2 y = blockCodes x0 x1 (q.1.emb y))
    ∧ (∀ q ∈ (pb_k0_t1 (F := Ideal) 𝒱 c bd i arg1 harg1 arg2 harg2 arg3 harg3 arg4 harg4 arg5 harg5 arg6 harg6 arg7 harg7 arg8 harg8 arg9 harg9 (harg1.unread x0) (harg2.unread x1) n).2.1, ∀ y, q.2 y = blockScales x0 x1 (q.1.emb y))
    ∧ (∀ q ∈ (pb_k0_t1 (F := Ideal) 𝒱 c bd i arg1 harg1 arg2 harg2 arg3 harg3 arg4 harg4 arg5 harg5 arg6 harg6 arg7 harg7 arg8 harg8 arg9 harg9 (harg1.unread x0) (harg2.unread x1) n).2.2, ∀ y, q.2 y = blockDeqs x0 x1 (q.1.emb y))
  | 0, _ => ⟨fun q hq => absurd hq List.not_mem_nil, fun q hq => absurd hq List.not_mem_nil, fun q hq => absurd hq List.not_mem_nil⟩
  | n + 1, hn => by
    have hp := pb_k0_t1_succ (F := Ideal) 𝒱 c bd i arg1 harg1 arg2 harg2 arg3 harg3 arg4 harg4 arg5 harg5 arg6 harg6 arg7 harg7 arg8 harg8 arg9 harg9 (harg1.unread x0) (harg2.unread x1) ⟨n, hn⟩
    obtain ⟨h1, h2, h3⟩ := loop_pieces n (Nat.le_of_succ_le hn)
    have t1 := trip_codes 𝒱 c bd i arg1 harg1 arg2 harg2 arg3 harg3 arg4 harg4 arg5 harg5 arg6 harg6 arg7 harg7 arg8 harg8 arg9 harg9 x0 x1 ⟨n, hn⟩
    have t2 := trip_scales 𝒱 c bd i arg1 harg1 arg2 harg2 arg3 harg3 arg4 harg4 arg5 harg5 arg6 harg6 arg7 harg7 arg8 harg8 arg9 harg9 x0 x1 ⟨n, hn⟩
    have t3 := trip_deqs 𝒱 c bd i arg1 harg1 arg2 harg2 arg3 harg3 arg4 harg4 arg5 harg5 arg6 harg6 arg7 harg7 arg8 harg8 arg9 harg9 x0 x1 ⟨n, hn⟩
    change pb_k0_t1 (F := Ideal) 𝒱 c bd i arg1 harg1 arg2 harg2 arg3 harg3 arg4 harg4 arg5 harg5 arg6 harg6 arg7 harg7 arg8 harg8 arg9 harg9 (harg1.unread x0) (harg2.unread x1) (n + 1) = _ at hp
    rw [hp]
    exact ⟨fun q hq => (List.mem_append.mp hq).elim (t1 q) (h1 q), fun q hq => (List.mem_append.mp hq).elim (t2 q) (h2 q),
      fun q hq => (List.mem_append.mp hq).elim (t3 q) (h3 q)⟩

end Cert.QuantInIdeal.Value

end
-- ==== Proof.QuantBlock.lean ====
/-
  What one grid point of the quantising call computes.

  The loop over the rows of the block leaves the codes, the scales and the dequantised activations in three output
  blocks (`blockCodes`, `blockScales`, `blockDeqs`); the first grid point also fills the scratch buffer with the
  dequantised columns of the weights (`columns`), which every later grid point finds there; the fourth output block is
  the first 64 columns of the product of the dequantised activations with the scratch.
-/
module

public import proofs.«01_k».proof.Proof.QuantLoop

@[expose] public section

-- the literal extents of the blocks are unfolded by the elaborator
set_option maxRecDepth 16384

noncomputable section

namespace Cert.QuantInIdeal.Value

open Cert.Quant
open Cert.QuantInIdeal Cert.QuantInIdeal.Gen Idealize.ShloMosaic Idealize.ShloMosaic.TcCoe Idealize.SL.Sem
open Idealize.ShloMosaic.Pipeline (Dat)

variable (c : Dev nD) (i : grid0.Coords) (arg1 : Memref sig .tc .vmem S128x8192 .bf16) (harg1 : arg1.IsWhole) (arg2 : Memref sig .tc .vmem S1x8192 .bf16) (harg2 : arg2.IsWhole) (arg3 : Memref sig .tc .vmem S8192x128 .fp8e4m3) (harg3 : arg3.IsWhole) (arg4 : Memref sig .tc .smem S64x73 .f32) (harg4 : arg4.IsWhole) (arg5 : Memref sig .tc .vmem S128x8192 .fp8e4m3) (harg5 : arg5.IsWhole) (arg6 : Memref sig .tc .vmem S128x64 .f32) (harg6 : arg6.IsWhole) (arg7 : Memref sig .tc .vmem S128x8192 .bf16) (harg7 : arg7.IsWhole) (arg8 : Memref sig .tc .vmem S128x64 .f32) (harg8 : arg8.IsWhole) (arg9 : Memref sig .tc .vmem S8192x128 .bf16) (harg9 : arg9.IsWhole)

theorem hz : (![0, 0] : Fin 2 → Nat) = fun _ => 0 := funext fun a => by fin_cases a <;> rfl

/-- The dequantised columns of the weights: each code times the scale of its group of 128 rows. -/
def columns (x2 : Vec Ideal S8192x128 .fp8e4m3) (x3 : Vec Ideal S64x73 .f32) : Vec Ideal S8192x128 .bf16 :=
  fun y => (x2 y * x3 (ix2 (grp (y 0)) ⟨72, by decide⟩) : EReal)

/-- The tile of 128 × 128 weights stored at row `off0` is that tile of `columns`: its scale is read at row `s0`. -/
theorem tile_eq {arg3 : Memref sig .tc .vmem S8192x128 .fp8e4m3} (harg3 : arg3.IsWhole) {arg4 : Memref sig .tc .smem S64x73 .f32} (harg4 : arg4.IsWhole)
    {x2 : Vec Ideal S8192x128 .fp8e4m3} {x3 : Vec Ideal S64x73 .f32}
    {off0 s0 : ℕ} {inb : ∀ a, (![off0, 0] : Fin 2 → ℕ) a + S128x128.size a ≤ S8192x128.size a}
    {inb2 : ∀ a, (![s0, 72] : Fin 2 → ℕ) a + S1x1.size a ≤ S64x73.size a}
    {hn : 0 < S1x1.numel} {P : FVec Ideal S128x128 .bf16} {x : S128x128.Idx}
    (hP : P = k0_pay4 (arg4.view.readAt (Elt Ideal) (Rect.unit (s := S64x73) ![s0, 72] S1x1.size inb2).toLoadRect (harg4.unread x3) (Shape.Idx.first hn))
      (arg3.view.readAt (Elt Ideal) (Rect.unit (s := S8192x128) ![off0, 0] S128x128.size inb).toLoadRect (harg3.unread x2)))
    (e0 : off0 = 128 * s0) :
    P x = columns x2 x3 ((Rect.unit (s := S8192x128) ![off0, 0] S128x128.size inb).emb x) := by
  have r3 := harg3.read_unread (Val := Elt Ideal) x2
  have r4 := harg4.read_unread (Val := Elt Ideal) x3
  rw [hP]
  unfold k0_pay4
  dsimp only
  rw [shapeCast_self, shapeCast_self, View.readAt_eq_ld, View.readAt_eq_ld, r3, r4]
  have h0 : (x 0).val < 128 := (x 0).isLt
  show (x2 _ * x3 _ : EReal) = x2 _ * x3 _
  congr 2
  funext a
  apply Fin.ext
  match a with
  | ⟨0, _⟩ =>
    show s0 + 1 * 0 = (off0 + 1 * (x 0).val) / 128
    omega
  | ⟨1, _⟩ => rfl

include c i arg1 harg1 arg2 harg2 arg3 harg3 arg4 harg4 arg5 harg5 arg6 harg6 arg7 harg7 arg8 harg8 arg9 harg9 in
/-- Every tile the first grid point stores in the scratch is that tile of `columns`. -/
theorem columns_pieces (hc x0 x1 x2 x3) :
    ∀ q ∈ (kernelRun0_A (F := Ideal) c i arg1 harg1 arg2 harg2 arg3 harg3 arg4 harg4 arg5 harg5 arg6 harg6 arg7 harg7 arg8 harg8 arg9 harg9 hc x0 x1 x2 x3).2.2.2.2.1, ∀ x, q.2 x = columns x2 x3 (q.1.emb x) := by
  unfold kernelRun0_A
  dsimp only
  sl_unfold_words
  repeat' first
    | refine forall_cons (fun x => tile_eq harg3 harg4 rfl rfl) ?_
    | exact fun q hq => absurd hq List.not_mem_nil

include c i arg1 harg1 arg2 harg2 arg3 harg3 arg4 harg4 arg5 harg5 arg6 harg6 arg7 harg7 arg8 harg8 arg9 harg9 in
/-- After the first grid point the scratch holds `columns`. -/
theorem sout_A (hc x0 x1 x2 x3) : sout0_A_0 (F := Ideal) c i arg1 harg1 arg2 harg2 arg3 harg3 arg4 harg4 arg5 harg5 arg6 harg6 arg7 harg7 arg8 harg8 arg9 harg9 hc x0 x1 x2 x3 = columns x2 x3 := by
  unfold sout0_A_0
  rw [View.read_writes_eq_canon _ _ _ (scover0_A_0 c i arg1 harg1 arg2 harg2 arg3 harg3 arg4 harg4 arg5 harg5 arg6 harg6 arg7 harg7 arg8 harg8 arg9 harg9 hc x0 x1 x2 x3)]
  funext y
  exact View.canon_apply_of_pieces (columns x2 x3) _ (columns_pieces c i arg1 harg1 arg2 harg2 arg3 harg3 arg4 harg4 arg5 harg5 arg6 harg6 arg7 harg7 arg8 harg8 arg9 harg9 hc x0 x1 x2 x3) y (scover0_A_0 c i arg1 harg1 arg2 harg2 arg3 harg3 arg4 harg4 arg5 harg5 arg6 harg6 arg7 harg7 arg8 harg8 arg9 harg9 hc x0 x1 x2 x3 y)

include c i arg1 harg1 arg2 harg2 arg3 harg3 arg4 harg4 arg5 harg5 arg6 harg6 arg7 harg7 arg8 harg8 arg9 harg9 in
/-- The stores of the first grid point's loop into output 4 are parts of `blockCodes`. -/
theorem pieces_A_4 (hc x0 x1 x2 x3) :
    ∀ q ∈ (kernelRun0_A (F := Ideal) c i arg1 harg1 arg2 harg2 arg3 harg3 arg4 harg4 arg5 harg5 arg6 harg6 arg7 harg7 arg8 harg8 arg9 harg9 hc x0 x1 x2 x3).1, ∀ x, q.2 x = blockCodes x0 x1 (q.1.emb x) := by
  unfold kernelRun0_A
  dsimp only
  exact (loop_pieces Variants.none c none i arg1 harg1 arg2 harg2 arg3 harg3 arg4 harg4 arg5 harg5 arg6 harg6 arg7 harg7 arg8 harg8 arg9 harg9 x0 x1 k0_t1_loop.trips le_rfl).1

include c i arg1 harg1 arg2 harg2 arg3 harg3 arg4 harg4 arg5 harg5 arg6 harg6 arg7 harg7 arg8 harg8 arg9 harg9 in
/-- At the first grid point, output 4 holds the codes of the block. -/
theorem out_A_4 (hc x0 x1 x2 x3) : out0_A_4 (F := Ideal) c i arg1 harg1 arg2 harg2 arg3 harg3 arg4 harg4 arg5 harg5 arg6 harg6 arg7 harg7 arg8 harg8 arg9 harg9 hc x0 x1 x2 x3 = blockCodes x0 x1 := by
  unfold out0_A_4
  rw [View.read_writes_eq_canon _ _ _ (cover0_A_4 c i arg1 harg1 arg2 harg2 arg3 harg3 arg4 harg4 arg5 harg5 arg6 harg6 arg7 harg7 arg8 harg8 arg9 harg9 hc x0 x1 x2 x3)]
  funext y
  exact View.canon_apply_of_pieces (blockCodes x0 x1) _ (pieces_A_4 c i arg1 harg1 arg2 harg2 arg3 harg3 arg4 harg4 arg5 harg5 arg6 harg6 arg7 harg7 arg8 harg8 arg9 harg9 hc x0 x1 x2 x3) y (cover0_A_4 c i arg1 harg1 arg2 harg2 arg3 harg3 arg4 harg4 arg5 harg5 arg6 harg6 arg7 harg7 arg8 harg8 arg9 harg9 hc x0 x1 x2 x3 y)

include c i arg1 harg1 arg2 harg2 arg3 harg3 arg4 harg4 arg5 harg5 arg6 harg6 arg7 harg7 arg8 harg8 arg9 harg9 in
/-- The stores of the first grid point's loop into output 5 are parts of `blockScales`. -/
theorem pieces_A_5 (hc x0 x1 x2 x3) :
    ∀ q ∈ (kernelRun0_A (F := Ideal) c i arg1 harg1 arg2 harg2 arg3 harg3 arg4 harg4 arg5 harg5 arg6 harg6 arg7 harg7 arg8 harg8 arg9 harg9 hc x0 x1 x2 x3).2.1, ∀ x, q.2 x = blockScales x0 x1 (q.1.emb x) := by
  unfold kernelRun0_A
  dsimp only
  exact (loop_pieces Variants.none c none i arg1 harg1 arg2 harg2 arg3 harg3 arg4 harg4 arg5 harg5 arg6 harg6 arg7 harg7 arg8 harg8 arg9 harg9 x0 x1 k0_t1_loop.trips le_rfl).2.1

include c i arg1 harg1 arg2 harg2 arg3 harg3 arg4 harg4 arg5 harg5 arg6 harg6 arg7 harg7 arg8 harg8 arg9 harg9 in
/-- At the first grid point, output 5 holds the scales of the block. -/
theorem out_A_5 (hc x0 x1 x2 x3) : out0_A_5 (F := Ideal) c i arg1 harg1 arg2 harg2 arg3 harg3 arg4 harg4 arg5 harg5 arg6 harg6 arg7 harg7 arg8 harg8 arg9 harg9 hc x0 x1 x2 x3 = blockScales x0 x1 := by
  unfold out0_A_5
  rw [View.read_writes_eq_canon _ _ _ (cover0_A_5 c i arg1 harg1 arg2 harg2 arg3 harg3 arg4 harg4 arg5 harg5 arg6 harg6 arg7 harg7 arg8 harg8 arg9 harg9 hc x0 x1 x2 x3)]
  funext y
  exact View.canon_apply_of_pieces (blockScales x0 x1) _ (pieces_A_5 c i arg1 harg1 arg2 harg2 arg3 harg3 arg4 harg4 arg5 harg5 arg6 harg6 arg7 harg7 arg8 harg8 arg9 harg9 hc x0 x1 x2 x3) y (cover0_A_5 c i arg1 harg1 arg2 harg2 arg3 harg3 arg4 harg4 arg5 harg5 arg6 harg6 arg7 harg7 arg8 harg8 arg9 harg9 hc x0 x1 x2 x3 y)

include c i arg1 harg1 arg2 harg2 arg3 harg3 arg4 harg4 arg5 harg5 arg6 harg6 arg7 harg7 arg8 harg8 arg9 harg9 in
/-- The stores of the first grid point's loop into output 6 are parts of `blockDeqs`. -/
theorem pieces_A_6 (hc x0 x1 x2 x3) :
    ∀ q ∈ (kernelRun0_A (F := Ideal) c i arg1 harg1 arg2 harg2 arg3 harg3 arg4 harg4 arg5 harg5 arg6 harg6 arg7 harg7 arg8 harg8 arg9 harg9 hc x0 x1 x2 x3).2.2.1, ∀ x, q.2 x = blockDeqs x0 x1 (q.1.emb x) := by
  unfold kernelRun0_A
  dsimp only
  exact (loop_pieces Variants.none c none i arg1 harg1 arg2 harg2 arg3 harg3 arg4 harg4 arg5 harg5 arg6 harg6 arg7 harg7 arg8 harg8 arg9 harg9 x0 x1 k0_t1_loop.trips le_rfl).2.2

include c i arg1 harg1 arg2 harg2 arg3 harg3 arg4 harg4 arg5 harg5 arg6 harg6 arg7 harg7 arg8 harg8 arg9 harg9 in
/-- At the first grid point, output 6 holds the dequantised activations of the block. -/
theorem out_A_6 (hc x0 x1 x2 x3) : out0_A_6 (F := Ideal) c i arg1 harg1 arg2 harg2 arg3 harg3 arg4 harg4 arg5 harg5 arg6 harg6 arg7 harg7 arg8 harg8 arg9 harg9 hc x0 x1 x2 x3 = blockDeqs x0 x1 := by
  unfold out0_A_6
  rw [View.read_writes_eq_canon _ _ _ (cover0_A_6 c i arg1 harg1 arg2 harg2 arg3 harg3 arg4 harg4 arg5 harg5 arg6 harg6 arg7 harg7 arg8 harg8 arg9 harg9 hc x0 x1 x2 x3)]
  funext y
  exact View.canon_apply_of_pieces (blockDeqs x0 x1) _ (pieces_A_6 c i arg1 harg1 arg2 harg2 arg3 harg3 arg4 harg4 arg5 harg5 arg6 harg6 arg7 harg7 arg8 harg8 arg9 harg9 hc x0 x1 x2 x3) y (cover0_A_6 c i arg1 harg1 arg2 harg2 arg3 harg3 arg4 harg4 arg5 harg5 arg6 harg6 arg7 harg7 arg8 harg8 arg9 harg9 hc x0 x1 x2 x3 y)

include c i arg1 harg1 arg2 harg2 arg3 harg3 arg4 harg4 arg5 harg5 arg6 harg6 arg7 harg7 arg8 harg8 arg9 harg9 in
/-- The stores of a later grid point's loop into output 4 are parts of `blockCodes`. -/
theorem pieces_B_4 (hc x0 x1 x2 x3 xs0) :
    ∀ q ∈ (kernelRun0_B (F := Ideal) c i arg1 harg1 arg2 harg2 arg3 harg3 arg4 harg4 arg5 harg5 arg6 harg6 arg7 harg7 arg8 harg8 arg9 harg9 hc x0 x1 x2 x3 xs0).1, ∀ x, q.2 x = blockCodes x0 x1 (q.1.emb x) := by
  unfold kernelRun0_B
  dsimp only
  exact (loop_pieces Variants.none c none i arg1 harg1 arg2 harg2 arg3 harg3 arg4 harg4 arg5 harg5 arg6 harg6 arg7 harg7 arg8 harg8 arg9 harg9 x0 x1 k0_t1_loop.trips le_rfl).1

include c i arg1 harg1 arg2 harg2 arg3 harg3 arg4 harg4 arg5 harg5 arg6 harg6 arg7 harg7 arg8 harg8 arg9 harg9 in
/-- At a later grid point, output 4 holds the codes of the block. -/
theorem out_B_4 (hc x0 x1 x2 x3 xs0) : out0_B_4 (F := Ideal) c i arg1 harg1 arg2 harg2 arg3 harg3 arg4 harg4 arg5 harg5 arg6 harg6 arg7 harg7 arg8 harg8 arg9 harg9 hc x0 x1 x2 x3 xs0 = blockCodes x0 x1 := by
  unfold out0_B_4
  rw [View.read_writes_eq_canon _ _ _ (cover0_B_4 c i arg1 harg1 arg2 harg2 arg3 harg3 arg4 harg4 arg5 harg5 arg6 harg6 arg7 harg7 arg8 harg8 arg9 harg9 hc x0 x1 x2 x3 xs0)]
  funext y
  exact View.canon_apply_of_pieces (blockCodes x0 x1) _ (pieces_B_4 c i arg1 harg1 arg2 harg2 arg3 harg3 arg4 harg4 arg5 harg5 arg6 harg6 arg7 harg7 arg8 harg8 arg9 harg9 hc x0 x1 x2 x3 xs0) y (cover0_B_4 c i arg1 harg1 arg2 harg2 arg3 harg3 arg4 harg4 arg5 harg5 arg6 harg6 arg7 harg7 arg8 harg8 arg9 harg9 hc x0 x1 x2 x3 xs0 y)

include c i arg1 harg1 arg2 harg2 arg3 harg3 arg4 harg4 arg5 harg5 arg6 harg6 arg7 harg7 arg8 harg8 arg9 harg9 in
/-- The stores of a later grid point's loop into output 5 are parts of `blockScales`. -/
theorem pieces_B_5 (hc x0 x1 x2 x3 xs0) :
    ∀ q ∈ (kernelRun0_B (F := Ideal) c i arg1 harg1 arg2 harg2 arg3 harg3 arg4 harg4 arg5 harg5 arg6 harg6 arg7 harg7 arg8 harg8 arg9 harg9 hc x0 x1 x2 x3 xs0).2.1, ∀ x, q.2 x = blockScales x0 x1 (q.1.emb x) := by
  unfold kernelRun0_B
  dsimp only
  exact (loop_pieces Variants.none c none i arg1 harg1 arg2 harg2 arg3 harg3 arg4 harg4 arg5 harg5 arg6 harg6 arg7 harg7 arg8 harg8 arg9 harg9 x0 x1 k0_t1_loop.trips le_rfl).2.1

include c i arg1 harg1 arg2 harg2 arg3 harg3 arg4 harg4 arg5 harg5 arg6 harg6 arg7 harg7 arg8 harg8 arg9 harg9 in
/-- At a later grid point, output 5 holds the scales of the block. -/
theorem out_B_5 (hc x0 x1 x2 x3 xs0) : out0_B_5 (F := Ideal) c i arg1 harg1 arg2 harg2 arg3 harg3 arg4 harg4 arg5 harg5 arg6 harg6 arg7 harg7 arg8 harg8 arg9 harg9 hc x0 x1 x2 x3 xs0 = blockScales x0 x1 := by
  unfold out0_B_5
  rw [View.read_writes_eq_canon _ _ _ (cover0_B_5 c i arg1 harg1 arg2 harg2 arg3 harg3 arg4 harg4 arg5 harg5 arg6 harg6 arg7 harg7 arg8 harg8 arg9 harg9 hc x0 x1 x2 x3 xs0)]
  funext y
  exact View.canon_apply_of_pieces (blockScales x0 x1) _ (pieces_B_5 c i arg1 harg1 arg2 harg2 arg3 harg3 arg4 harg4 arg5 harg5 arg6 harg6 arg7 harg7 arg8 harg8 arg9 harg9 hc x0 x1 x2 x3 xs0) y (cover0_B_5 c i arg1 harg1 arg2 harg2 arg3 harg3 arg4 harg4 arg5 harg5 arg6 harg6 arg7 harg7 arg8 harg8 arg9 harg9 hc x0 x1 x2 x3 xs0 y)

include c i arg1 harg1 arg2 harg2 arg3 harg3 arg4 harg4 arg5 harg5 arg6 harg6 arg7 harg7 arg8 harg8 arg9 harg9 in
/-- The stores of a later grid point's loop into output 6 are parts of `blockDeqs`. -/
theorem pieces_B_6 (hc x0 x1 x2 x3 xs0) :
    ∀ q ∈ (kernelRun0_B (F := Ideal) c i arg1 harg1 arg2 harg2 arg3 harg3 arg4 harg4 arg5 harg5 arg6 harg6 arg7 harg7 arg8 harg8 arg9 harg9 hc x0 x1 x2 x3 xs0).2.2.1, ∀ x, q.2 x = blockDeqs x0 x1 (q.1.emb x) := by
  unfold kernelRun0_B
  dsimp only
  exact (loop_pieces Variants.none c none i arg1 harg1 arg2 harg2 arg3 harg3 arg4 harg4 arg5 harg5 arg6 harg6 arg7 harg7 arg8 harg8 arg9 harg9 x0 x1 k0_t1_loop.trips le_rfl).2.2

include c i arg1 harg1 arg2 harg2 arg3 harg3 arg4 harg4 arg5 harg5 arg6 harg6 arg7 harg7 arg8 harg8 arg9 harg9 in
/-- At a later grid point, output 6 holds the dequantised activations of the block. -/
theorem out_B_6 (hc x0 x1 x2 x3 xs0) : out0_B_6 (F := Ideal) c i arg1 harg1 arg2 harg2 arg3 harg3 arg4 harg4 arg5 harg5 arg6 harg6 arg7 harg7 arg8 harg8 arg9 harg9 hc x0 x1 x2 x3 xs0 = blockDeqs x0 x1 := by
  unfold out0_B_6
  rw [View.read_writes_eq_canon _ _ _ (cover0_B_6 c i arg1 harg1 arg2 harg2 arg3 harg3 arg4 harg4 arg5 harg5 arg6 harg6 arg7 harg7 arg8 harg8 arg9 harg9 hc x0 x1 x2 x3 xs0)]
  funext y
  exact View.canon_apply_of_pieces (blockDeqs x0 x1) _ (pieces_B_6 c i arg1 harg1 arg2 harg2 arg3 harg3 arg4 harg4 arg5 harg5 arg6 harg6 arg7 harg7 arg8 harg8 arg9 harg9 hc x0 x1 x2 x3 xs0) y (cover0_B_6 c i arg1 harg1 arg2 harg2 arg3 harg3 arg4 harg4 arg5 harg5 arg6 harg6 arg7 harg7 arg8 harg8 arg9 harg9 hc x0 x1 x2 x3 xs0 y)

/-- Reading a whole 128 × 8192 buffer back through stores that are all parts of one matrix reads that matrix. -/
theorem readCov_deqs {arg7 : Memref sig .tc .vmem S128x8192 .bf16} {L : List (View.Piece (Elt Ideal) S128x8192 .bf16)} {inb} (target : Vec Ideal S128x8192 .bf16)
    (hL : ∀ q ∈ L, ∀ x, q.2 x = target (q.1.emb x)) (hcov : ∀ y : S128x8192.Idx, ∃ pc ∈ L, y ∈ pc.1.set) :
    arg7.view.readCov L (Rect.unit (s := S128x8192) ![0, 0] ![128, 8192] inb).toLoadRect = target := by
  rw [View.readCov_eq_canon']
  funext y
  change S128x8192.Idx at y
  refine (congrArg _ (?_ : _ = y)).trans (View.canon_apply_of_pieces target _ hL y (hcov y))
  funext a; apply Fin.ext; match a with
  | ⟨0, _⟩ => show 0 + 1 * (y 0).val = (y 0).val; omega
  | ⟨1, _⟩ => show 0 + 1 * (y 1).val = (y 1).val; omega

/-- The same for the 8192 × 128 scratch. -/
theorem readCov_columns {arg9 : Memref sig .tc .vmem S8192x128 .bf16} {L : List (View.Piece (Elt Ideal) S8192x128 .bf16)} {inb} (target : Vec Ideal S8192x128 .bf16)
    (hL : ∀ q ∈ L, ∀ x, q.2 x = target (q.1.emb x)) (hcov : ∀ y : S8192x128.Idx, ∃ pc ∈ L, y ∈ pc.1.set) :
    arg9.view.readCov L (Rect.unit (s := S8192x128) ![0, 0] ![8192, 128] inb).toLoadRect = target := by
  rw [View.readCov_eq_canon']
  funext y
  change S8192x128.Idx at y
  refine (congrArg _ (?_ : _ = y)).trans (View.canon_apply_of_pieces target _ hL y (hcov y))
  funext a; apply Fin.ext; match a with
  | ⟨0, _⟩ => show 0 + 1 * (y 0).val = (y 0).val; omega
  | ⟨1, _⟩ => show 0 + 1 * (y 1).val = (y 1).val; omega

include c i arg1 harg1 arg2 harg2 arg3 harg3 arg4 harg4 arg5 harg5 arg6 harg6 arg7 harg7 arg8 harg8 arg9 harg9 in
/-- At the first grid point, output 7 is the product of the dequantised activations with `columns`. -/
theorem out_A_7 (hc x0 x1 x2 x3) : out0_A_7 (F := Ideal) c i arg1 harg1 arg2 harg2 arg3 harg3 arg4 harg4 arg5 harg5 arg6 harg6 arg7 harg7 arg8 harg8 arg9 harg9 hc x0 x1 x2 x3 = k0_pay3 (blockDeqs x0 x1) (columns x2 x3) := by
  have p6 := pieces_A_6 c i arg1 harg1 arg2 harg2 arg3 harg3 arg4 harg4 arg5 harg5 arg6 harg6 arg7 harg7 arg8 harg8 arg9 harg9 hc x0 x1 x2 x3
  have c6 := cover0_A_6 c i arg1 harg1 arg2 harg2 arg3 harg3 arg4 harg4 arg5 harg5 arg6 harg6 arg7 harg7 arg8 harg8 arg9 harg9 hc x0 x1 x2 x3
  have ps := columns_pieces c i arg1 harg1 arg2 harg2 arg3 harg3 arg4 harg4 arg5 harg5 arg6 harg6 arg7 harg7 arg8 harg8 arg9 harg9 hc x0 x1 x2 x3
  have cs := scover0_A_0 c i arg1 harg1 arg2 harg2 arg3 harg3 arg4 harg4 arg5 harg5 arg6 harg6 arg7 harg7 arg8 harg8 arg9 harg9 hc x0 x1 x2 x3
  unfold out0_A_7
  rw [View.read_writes_eq_canon _ _ _ (cover0_A_7 c i arg1 harg1 arg2 harg2 arg3 harg3 arg4 harg4 arg5 harg5 arg6 harg6 arg7 harg7 arg8 harg8 arg9 harg9 hc x0 x1 x2 x3)]
  unfold kernelRun0_A at *
  dsimp only at *
  rw [View.canon_unit_zero hz]
  unfold kernelRun0_A.sl.v6
  exact congrArg₂ k0_pay3 (readCov_deqs _ p6 c6) (readCov_columns _ ps cs)

include c i arg1 harg1 arg2 harg2 arg3 harg3 arg4 harg4 arg5 harg5 arg6 harg6 arg7 harg7 arg8 harg8 arg9 harg9 in
/-- At a later grid point, output 7 is the product of the dequantised activations with what the scratch holds. -/
theorem out_B_7 (hc x0 x1 x2 x3 xs0) : out0_B_7 (F := Ideal) c i arg1 harg1 arg2 harg2 arg3 harg3 arg4 harg4 arg5 harg5 arg6 harg6 arg7 harg7 arg8 harg8 arg9 harg9 hc x0 x1 x2 x3 xs0 = k0_pay3 (blockDeqs x0 x1) xs0 := by
  have p6 := pieces_B_6 c i arg1 harg1 arg2 harg2 arg3 harg3 arg4 harg4 arg5 harg5 arg6 harg6 arg7 harg7 arg8 harg8 arg9 harg9 hc x0 x1 x2 x3 xs0
  have c6 := cover0_B_6 c i arg1 harg1 arg2 harg2 arg3 harg3 arg4 harg4 arg5 harg5 arg6 harg6 arg7 harg7 arg8 harg8 arg9 harg9 hc x0 x1 x2 x3 xs0
  have r9 := harg9.read_unread (Val := Elt Ideal) xs0
  unfold out0_B_7
  rw [View.read_writes_eq_canon _ _ _ (cover0_B_7 c i arg1 harg1 arg2 harg2 arg3 harg3 arg4 harg4 arg5 harg5 arg6 harg6 arg7 harg7 arg8 harg8 arg9 harg9 hc x0 x1 x2 x3 xs0)]
  unfold kernelRun0_B at *
  dsimp only at *
  rw [View.canon_unit_zero hz]
  refine congrArg₂ k0_pay3 (readCov_deqs _ p6 c6) ?_
  rw [View.readAt_eq_ld, r9]
  exact View.ld_unit_zero (S := S8192x128) hz _ xs0

/-- One entry of output 7: the sum over the 8192 rows of the dequantised activation times the scratch. -/
theorem product_apply (xd : Vec Ideal S128x8192 .bf16) (w : Vec Ideal S8192x128 .bf16) (j : S128x64.Idx) :
    k0_pay3 xd w j = (∑ k : Fin 8192, xd (ix2 (j 0) k) * w (ix2 k ⟨(j 1).val, lt_trans (j 1).isLt (by decide)⟩) : EReal) := by
  obtain ⟨r, n, rfl⟩ : ∃ (r : Fin 128) (n : Fin 64), j = ix2 r n := ⟨j 0, j 1, eq_ix2 j⟩
  pointwise [k0_pay3]

end Cert.QuantInIdeal.Value

end
-- ==== Proof.QuantArrays.lean ====
/-
  The quantising call over the extended reals: the four arrays it leaves are `codes`, `scales`, `deqs` and `steps` of
  its arguments.

  Each grid point writes back a block of 128 rows of each array, and the 24 blocks tile it.  The scratch holds the
  dequantised columns of the weights after every grid point, by induction on the point.
-/
module

public import proofs.«01_k».proof.Proof.QuantBlock
public import Idealize.ShloMosaic.Lib.StableHlo.ReadAt

@[expose] public section

-- the literal extents of the arrays are unfolded by the elaborator
set_option maxRecDepth 16384

noncomputable section

namespace Cert.QuantInIdeal.Value

open Cert.Quant
open Cert.QuantInIdeal Cert.QuantInIdeal.Gen Idealize.ShloMosaic Idealize.ShloMosaic.TcCoe Idealize.SL.Sem
open Idealize.ShloMosaic.Pipeline (Dat)

/-- Where the input windows of a grid point lie: the activations at its row block, everything else whole. -/
theorem index_facts : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0 :=
  (by decide +kernel : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0)

/-- Grid point `t` writes row block `t` of output 4. -/
theorem index_facts4 : ∀ t : Fin cfg0.N, (cfg0.win 4).flush t = true ∧ win0_4.index t 0 = t.val ∧ win0_4.index t 1 = 0 :=
  (by decide +kernel : ∀ t : Fin grid0.N, (cfg0.win 4).flush t = true ∧ win0_4.index t 0 = t.val ∧ win0_4.index t 1 = 0)

/-- Grid point `t` writes row block `t` of output 5. -/
theorem index_facts5 : ∀ t : Fin cfg0.N, (cfg0.win 5).flush t = true ∧ win0_5.index t 0 = t.val ∧ win0_5.index t 1 = 0 :=
  (by decide +kernel : ∀ t : Fin grid0.N, (cfg0.win 5).flush t = true ∧ win0_5.index t 0 = t.val ∧ win0_5.index t 1 = 0)

/-- Grid point `t` writes row block `t` of output 6. -/
theorem index_facts6 : ∀ t : Fin cfg0.N, (cfg0.win 6).flush t = true ∧ win0_6.index t 0 = t.val ∧ win0_6.index t 1 = 0 :=
  (by decide +kernel : ∀ t : Fin grid0.N, (cfg0.win 6).flush t = true ∧ win0_6.index t 0 = t.val ∧ win0_6.index t 1 = 0)

/-- Grid point `t` writes row block `t` of output 7. -/
theorem index_facts7 : ∀ t : Fin cfg0.N, (cfg0.win 7).flush t = true ∧ win0_7.index t 0 = t.val ∧ win0_7.index t 1 = 0 :=
  (by decide +kernel : ∀ t : Fin grid0.N, (cfg0.win 7).flush t = true ∧ win0_7.index t 0 = t.val ∧ win0_7.index t 1 = 0)

variable (m : (ℓ : Loc nD τ sig) → Buf (Elt Ideal) ℓ) (ρ : Dev nD → PrngReg)

/-- The block of activations of a grid point, entry by entry. -/
theorem rows_eq (c : Dev nD) (t : Fin cfg0.N) (a : Fin 128) (k : Fin 8192) (r : Fin 3072) (hr : r.val = 128 * t.val + a.val) :
    (iblk m c 0 t : Vec Ideal S128x8192 .bf16) (ix2 a k) = (V m c main_arg0 : Vec Ideal S3072x8192 .bf16) (ix2 r k) := by
  obtain ⟨e0, e1, -⟩ := index_facts t
  show (V m c main_arg0 : Vec Ideal S3072x8192 .bf16) (((cfg0.win 0).blk t).view.emb (show S128x8192.Idx from ix2 a k)) = _
  congr 1
  funext x; apply Fin.ext
  match x with
  | ⟨0, _⟩ => show win0_0.index t (0 : Fin 2) * 128 + 1 * a.val = r.val; omega
  | ⟨1, _⟩ => show win0_0.index t (1 : Fin 2) * 8192 + 1 * k.val = k.val; omega

/-- Every grid point is given the norm weights whole. -/
theorem whole1 (c : Dev nD) (t : Fin cfg0.N) : (iblk m c 1 t : Vec Ideal S1x8192 .bf16) = V m c main_arg1 := by
  obtain ⟨-, -, e1, e1', e2, e2', e3, e3'⟩ := index_facts t
  funext y
  change S1x8192.Idx at y
  show (V m c main_arg1 : Vec Ideal S1x8192 .bf16) (((cfg0.win 1).blk t).view.emb y) = _
  congr 1
  funext x; apply Fin.ext
  match x with
  | ⟨0, _⟩ => show win0_1.index t (0 : Fin 2) * 1 + 1 * (y 0).val = (y 0).val; omega
  | ⟨1, _⟩ => show win0_1.index t (1 : Fin 2) * 8192 + 1 * (y 1).val = (y 1).val; omega

/-- Every grid point is given the columns of codes whole. -/
theorem whole2 (c : Dev nD) (t : Fin cfg0.N) : (iblk m c 2 t : Vec Ideal S8192x128 .fp8e4m3) = V m c main_v2 := by
  obtain ⟨-, -, e1, e1', e2, e2', e3, e3'⟩ := index_facts t
  funext y
  change S8192x128.Idx at y
  show (V m c main_v2 : Vec Ideal S8192x128 .fp8e4m3) (((cfg0.win 2).blk t).view.emb y) = _
  congr 1
  funext x; apply Fin.ext
  match x with
  | ⟨0, _⟩ => show win0_2.index t (0 : Fin 2) * 8192 + 1 * (y 0).val = (y 0).val; omega
  | ⟨1, _⟩ => show win0_2.index t (1 : Fin 2) * 128 + 1 * (y 1).val = (y 1).val; omega

/-- Every grid point is given the weight scales whole. -/
theorem whole3 (c : Dev nD) (t : Fin cfg0.N) : (iblk m c 3 t : Vec Ideal S64x73 .f32) = V m c main_arg3 := by
  obtain ⟨-, -, e1, e1', e2, e2', e3, e3'⟩ := index_facts t
  funext y
  change S64x73.Idx at y
  show (V m c main_arg3 : Vec Ideal S64x73 .f32) (((cfg0.win 3).blk t).view.emb y) = _
  congr 1
  funext x; apply Fin.ext
  match x with
  | ⟨0, _⟩ => show win0_3.index t (0 : Fin 2) * 64 + 1 * (y 0).val = (y 0).val; omega
  | ⟨1, _⟩ => show win0_3.index t (1 : Fin 2) * 73 + 1 * (y 1).val = (y 1).val; omega

/-- After every grid point the scratch holds the dequantised columns of the weights: the first point fills it, no later
    point writes it. -/
theorem scratch_eq (c : Dev nD) : ∀ (n : ℕ) (hn : n < cfg0.N),
    (outsAt0 m c n hn).2.2.2.2 = columns (V m c main_v2) (V m c main_arg3)
  | 0, hn => by
    refine (congrArg (fun p => p.2.2.2.2) (outsAt0_A m c ⟨0, hn⟩ rfl)).trans ?_
    dsimp only
    rw [sout_A, whole2, whole3]
  | n + 1, hn => by
    have hN : n + 1 < 24 := lt_of_lt_of_eq hn N_0
    have h0 : ¬ (n + 1) % 24 = 0 := by omega
    exact (congrArg (fun p => p.2.2.2.2) (outsAt0_B m c ⟨n + 1, hn⟩ h0)).trans (scratch_eq c n (Nat.lt_of_succ_lt hn))

/-- The block of `codes` that a grid point computes is its block of the whole array. -/
theorem block4 (c : Dev nD) (t : Fin cfg0.N) (j : S128x8192.Idx) :
    blockCodes (iblk m c 0 t) (iblk m c 1 t) j = codes (V m c main_arg0) (V m c main_arg1) (((cfg0.win 4).blk t).view.emb j) := by
  obtain ⟨-, f0, f1⟩ := index_facts4 t
  have hj0 : (((cfg0.win 4).blk t).view.emb j (0 : Fin 2)).val = 128 * t.val + (j 0).val := by
    show win0_4.index t (0 : Fin 2) * 128 + 1 * (j 0).val = _; omega
  have hj1 : (((cfg0.win 4).blk t).view.emb j (1 : Fin 2)).val = (j 1).val := by
    show win0_4.index t (1 : Fin 2) * 8192 + 1 * (j 1).val = _; omega
  have hx : (fun n : Fin 8192 => (iblk m c 0 t : Vec Ideal S128x8192 .bf16) (ix2 (j 0) n))
      = fun n => (V m c main_arg0 : Vec Ideal S3072x8192 .bf16) (ix2 (((cfg0.win 4).blk t).view.emb j (0 : Fin 2)) n) :=
    funext fun n => rows_eq m c t (j 0) n _ hj0
  have hw : (fun n : Fin 8192 => (iblk m c 1 t : Vec Ideal S1x8192 .bf16) (ix2 0 n))
      = fun n => (V m c main_arg1 : Vec Ideal S1x8192 .bf16) (ix2 0 n) := by rw [whole1]
  exact congr (congr (congrArg code hx) hw) (Fin.ext hj1.symm)

/-- What a grid point writes back to output 4 is its block of `codes`. -/
theorem written4 (c : Dev nD) (t : Fin cfg0.N) :
    (dats m 0 c).flushed 4 t = ((cfg0.win 4).blk t).view.read (Elt Ideal) (codes (V m c main_arg0) (V m c main_arg1)) := by
  by_cases h : t.val % 24 = 0
  · rw [flushed4_A m c t h, out_A_4]
    funext j
    change S128x8192.Idx at j
    exact block4 m c t j
  · rw [flushed4_B m c t h, out_B_4]
    funext j
    change S128x8192.Idx at j
    exact block4 m c t j

/-- The block of `scales` that a grid point computes is its block of the whole array. -/
theorem block5 (c : Dev nD) (t : Fin cfg0.N) (j : S128x64.Idx) :
    blockScales (iblk m c 0 t) (iblk m c 1 t) j = scales (V m c main_arg0) (V m c main_arg1) (((cfg0.win 5).blk t).view.emb j) := by
  obtain ⟨-, f0, f1⟩ := index_facts5 t
  have hj0 : (((cfg0.win 5).blk t).view.emb j (0 : Fin 2)).val = 128 * t.val + (j 0).val := by
    show win0_5.index t (0 : Fin 2) * 128 + 1 * (j 0).val = _; omega
  have hj1 : (((cfg0.win 5).blk t).view.emb j (1 : Fin 2)).val = (j 1).val := by
    show win0_5.index t (1 : Fin 2) * 64 + 1 * (j 1).val = _; omega
  have hx : (fun n : Fin 8192 => (iblk m c 0 t : Vec Ideal S128x8192 .bf16) (ix2 (j 0) n))
      = fun n => (V m c main_arg0 : Vec Ideal S3072x8192 .bf16) (ix2 (((cfg0.win 5).blk t).view.emb j (0 : Fin 2)) n) :=
    funext fun n => rows_eq m c t (j 0) n _ hj0
  have hw : (fun n : Fin 8192 => (iblk m c 1 t : Vec Ideal S1x8192 .bf16) (ix2 0 n))
      = fun n => (V m c main_arg1 : Vec Ideal S1x8192 .bf16) (ix2 0 n) := by rw [whole1]
  exact congr (congr (congrArg scale hx) hw) (Fin.ext hj1.symm)

/-- What a grid point writes back to output 5 is its block of `scales`. -/
theorem written5 (c : Dev nD) (t : Fin cfg0.N) :
    (dats m 0 c).flushed 5 t = ((cfg0.win 5).blk t).view.read (Elt Ideal) (scales (V m c main_arg0) (V m c main_arg1)) := by
  by_cases h : t.val % 24 = 0
  · rw [flushed5_A m c t h, out_A_5]
    funext j
    change S128x64.Idx at j
    exact block5 m c t j
  · rw [flushed5_B m c t h, out_B_5]
    funext j
    change S128x64.Idx at j
    exact block5 m c t j

/-- The block of `deqs` that a grid point computes is its block of the whole array. -/
theorem block6 (c : Dev nD) (t : Fin cfg0.N) (j : S128x8192.Idx) :
    blockDeqs (iblk m c 0 t) (iblk m c 1 t) j = deqs (V m c main_arg0) (V m c main_arg1) (((cfg0.win 6).blk t).view.emb j) := by
  obtain ⟨-, f0, f1⟩ := index_facts6 t
  have hj0 : (((cfg0.win 6).blk t).view.emb j (0 : Fin 2)).val = 128 * t.val + (j 0).val := by
    show win0_6.index t (0 : Fin 2) * 128 + 1 * (j 0).val = _; omega
  have hj1 : (((cfg0.win 6).blk t).view.emb j (1 : Fin 2)).val = (j 1).val := by
    show win0_6.index t (1 : Fin 2) * 8192 + 1 * (j 1).val = _; omega
  have hx : (fun n : Fin 8192 => (iblk m c 0 t : Vec Ideal S128x8192 .bf16) (ix2 (j 0) n))
      = fun n => (V m c main_arg0 : Vec Ideal S3072x8192 .bf16) (ix2 (((cfg0.win 6).blk t).view.emb j (0 : Fin 2)) n) :=
    funext fun n => rows_eq m c t (j 0) n _ hj0
  have hw : (fun n : Fin 8192 => (iblk m c 1 t : Vec Ideal S1x8192 .bf16) (ix2 0 n))
      = fun n => (V m c main_arg1 : Vec Ideal S1x8192 .bf16) (ix2 0 n) := by rw [whole1]
  exact congr (congr (congrArg deq hx) hw) (Fin.ext hj1.symm)

/-- What a grid point writes back to output 6 is its block of `deqs`. -/
theorem written6 (c : Dev nD) (t : Fin cfg0.N) :
    (dats m 0 c).flushed 6 t = ((cfg0.win 6).blk t).view.read (Elt Ideal) (deqs (V m c main_arg0) (V m c main_arg1)) := by
  by_cases h : t.val % 24 = 0
  · rw [flushed6_A m c t h, out_A_6]
    funext j
    change S128x8192.Idx at j
    exact block6 m c t j
  · rw [flushed6_B m c t h, out_B_6]
    funext j
    change S128x8192.Idx at j
    exact block6 m c t j

/-- The columns of codes that the call is given are columns 9216, 9217, … of the weights. -/
theorem codes_read (c : Dev nD) (k : Fin 8192) (n : Fin 64) (n' : Fin 128) (hn : n'.val = n.val) :
    (V m c main_v2 : Vec Ideal S8192x128 .fp8e4m3) (ix2 k n')
      = (m ((c : Thread nD τ).loc main_arg2) : Vec Ideal S8192x9280 .fp8e4m3) (ix2 k ⟨9216 + n.val, by omega⟩) := by
  obtain rfl : n' = ⟨n.val, lt_trans n.isLt (by decide)⟩ := Fin.ext hn
  unfold V
  after_reads_at

/-- What a grid point writes back to output 7 is its block of `steps`. -/
theorem written7 (c : Dev nD) (t : Fin cfg0.N) :
    (dats m 0 c).flushed 7 t = ((cfg0.win 7).blk t).view.read (Elt Ideal)
      (steps (V m c main_arg0) (V m c main_arg1) (m ((c : Thread nD τ).loc main_arg2)) (V m c main_arg3)) := by
  have key : ∀ j : S128x64.Idx, k0_pay3 (blockDeqs (iblk m c 0 t) (iblk m c 1 t)) (columns (V m c main_v2) (V m c main_arg3)) j
      = steps (V m c main_arg0) (V m c main_arg1) (m ((c : Thread nD τ).loc main_arg2)) (V m c main_arg3) (((cfg0.win 7).blk t).view.emb j) := by
    intro j
    obtain ⟨-, f0, f1⟩ := index_facts7 t
    have hj0 : (((cfg0.win 7).blk t).view.emb j (0 : Fin 2)).val = 128 * t.val + (j 0).val := by
      show win0_7.index t (0 : Fin 2) * 128 + 1 * (j 0).val = _; omega
    have hj1 : (((cfg0.win 7).blk t).view.emb j (1 : Fin 2)).val = (j 1).val := by
      show win0_7.index t (1 : Fin 2) * 64 + 1 * (j 1).val = _; omega
    have hx : (fun n : Fin 8192 => (iblk m c 0 t : Vec Ideal S128x8192 .bf16) (ix2 (j 0) n))
        = fun n => (V m c main_arg0 : Vec Ideal S3072x8192 .bf16) (ix2 (((cfg0.win 7).blk t).view.emb j (0 : Fin 2)) n) :=
      funext fun n => rows_eq m c t (j 0) n _ hj0
    have hw : (fun n : Fin 8192 => (iblk m c 1 t : Vec Ideal S1x8192 .bf16) (ix2 0 n))
        = fun n => (V m c main_arg1 : Vec Ideal S1x8192 .bf16) (ix2 0 n) := by rw [whole1]
    rw [product_apply]
    unfold steps
    refine Finset.sum_congr rfl fun k _ => congrArg₂ _ (congrFun (congr (congrArg deq hx) hw) k) ?_
    exact congrArg (fun e : EReal => e * (V m c main_arg3 : Vec Ideal S64x73 .f32) (ix2 (grp k) 72))
      (codes_read m c k (((cfg0.win 7).blk t).view.emb j (1 : Fin 2)) _ hj1.symm)
  by_cases h : t.val % 24 = 0
  · rw [flushed7_A m c t h, out_A_7, whole2, whole3]
    funext j
    change S128x64.Idx at j
    exact key j
  · rw [flushed7_B m c t h, out_B_7, scratch_eq]
    funext j
    change S128x64.Idx at j
    exact key j

/-- Every entry of output 4 is in the block of some grid point. -/
theorem covered4 (i : S3072x8192.Idx) : ∃ t : Fin cfg0.N, (cfg0.win 4).flush t = true ∧ i ∈ ((cfg0.win 4).blk t).view.set := by
  have h0 : (i 0).val < 3072 := (i 0).isLt
  have h1 : (i 1).val < 8192 := (i 1).isLt
  have ht : (i 0).val / 128 < cfg0.N := lt_of_lt_of_eq (by omega : (i 0).val / 128 < 24) N_0.symm
  obtain ⟨hf, e0, e1⟩ := index_facts4 ⟨(i 0).val / 128, ht⟩
  have e0' : win0_4.index ⟨(i 0).val / 128, ht⟩ (0 : Fin 2) = (i 0).val / 128 := e0
  refine ⟨⟨(i 0).val / 128, ht⟩, hf, ?_⟩
  have h := ((cfg0.win 4).blk ⟨(i 0).val / 128, ht⟩).view.emb_mem_set (show S128x8192.Idx from ix2 ⟨(i 0).val % 128, by omega⟩ ⟨(i 1).val, h1⟩)
  have he : ((cfg0.win 4).blk ⟨(i 0).val / 128, ht⟩).view.emb (show S128x8192.Idx from ix2 ⟨(i 0).val % 128, by omega⟩ ⟨(i 1).val, h1⟩) = i := by
    funext a; apply Fin.ext
    match a with
    | ⟨0, _⟩ => show win0_4.index ⟨(i 0).val / 128, ht⟩ (0 : Fin 2) * 128 + 1 * ((i 0).val % 128) = (i 0).val; omega
    | ⟨1, _⟩ => show win0_4.index ⟨(i 0).val / 128, ht⟩ (1 : Fin 2) * 8192 + 1 * (i 1).val = (i 1).val; omega
  rwa [he] at h

/-- Output 4 after the run. -/
theorem final_codes (c : Dev nD) : (dats m 0 c).arrAt 4 cfg0.N = codes (m ((c : Thread nD τ).loc main_arg0)) (m ((c : Thread nD τ).loc main_arg1)) :=
  ((dats m 0 c).arrAt_eq_of_cover 4 (codes (V m c main_arg0) (V m c main_arg1)) (fun t _ => written4 m c t) covered4).trans
    (by rw [V_main_arg0, V_main_arg1])

/-- Every entry of output 5 is in the block of some grid point. -/
theorem covered5 (i : S3072x64.Idx) : ∃ t : Fin cfg0.N, (cfg0.win 5).flush t = true ∧ i ∈ ((cfg0.win 5).blk t).view.set := by
  have h0 : (i 0).val < 3072 := (i 0).isLt
  have h1 : (i 1).val < 64 := (i 1).isLt
  have ht : (i 0).val / 128 < cfg0.N := lt_of_lt_of_eq (by omega : (i 0).val / 128 < 24) N_0.symm
  obtain ⟨hf, e0, e1⟩ := index_facts5 ⟨(i 0).val / 128, ht⟩
  have e0' : win0_5.index ⟨(i 0).val / 128, ht⟩ (0 : Fin 2) = (i 0).val / 128 := e0
  refine ⟨⟨(i 0).val / 128, ht⟩, hf, ?_⟩
  have h := ((cfg0.win 5).blk ⟨(i 0).val / 128, ht⟩).view.emb_mem_set (show S128x64.Idx from ix2 ⟨(i 0).val % 128, by omega⟩ ⟨(i 1).val, h1⟩)
  have he : ((cfg0.win 5).blk ⟨(i 0).val / 128, ht⟩).view.emb (show S128x64.Idx from ix2 ⟨(i 0).val % 128, by omega⟩ ⟨(i 1).val, h1⟩) = i := by
    funext a; apply Fin.ext
    match a with
    | ⟨0, _⟩ => show win0_5.index ⟨(i 0).val / 128, ht⟩ (0 : Fin 2) * 128 + 1 * ((i 0).val % 128) = (i 0).val; omega
    | ⟨1, _⟩ => show win0_5.index ⟨(i 0).val / 128, ht⟩ (1 : Fin 2) * 64 + 1 * (i 1).val = (i 1).val; omega
  rwa [he] at h

/-- Output 5 after the run. -/
theorem final_scales (c : Dev nD) : (dats m 0 c).arrAt 5 cfg0.N = scales (m ((c : Thread nD τ).loc main_arg0)) (m ((c : Thread nD τ).loc main_arg1)) :=
  ((dats m 0 c).arrAt_eq_of_cover 5 (scales (V m c main_arg0) (V m c main_arg1)) (fun t _ => written5 m c t) covered5).trans
    (by rw [V_main_arg0, V_main_arg1])

/-- Every entry of output 6 is in the block of some grid point. -/
theorem covered6 (i : S3072x8192.Idx) : ∃ t : Fin cfg0.N, (cfg0.win 6).flush t = true ∧ i ∈ ((cfg0.win 6).blk t).view.set := by
  have h0 : (i 0).val < 3072 := (i 0).isLt
  have h1 : (i 1).val < 8192 := (i 1).isLt
  have ht : (i 0).val / 128 < cfg0.N := lt_of_lt_of_eq (by omega : (i 0).val / 128 < 24) N_0.symm
  obtain ⟨hf, e0, e1⟩ := index_facts6 ⟨(i 0).val / 128, ht⟩
  have e0' : win0_6.index ⟨(i 0).val / 128, ht⟩ (0 : Fin 2) = (i 0).val / 128 := e0
  refine ⟨⟨(i 0).val / 128, ht⟩, hf, ?_⟩
  have h := ((cfg0.win 6).blk ⟨(i 0).val / 128, ht⟩).view.emb_mem_set (show S128x8192.Idx from ix2 ⟨(i 0).val % 128, by omega⟩ ⟨(i 1).val, h1⟩)
  have he : ((cfg0.win 6).blk ⟨(i 0).val / 128, ht⟩).view.emb (show S128x8192.Idx from ix2 ⟨(i 0).val % 128, by omega⟩ ⟨(i 1).val, h1⟩) = i := by
    funext a; apply Fin.ext
    match a with
    | ⟨0, _⟩ => show win0_6.index ⟨(i 0).val / 128, ht⟩ (0 : Fin 2) * 128 + 1 * ((i 0).val % 128) = (i 0).val; omega
    | ⟨1, _⟩ => show win0_6.index ⟨(i 0).val / 128, ht⟩ (1 : Fin 2) * 8192 + 1 * (i 1).val = (i 1).val; omega
  rwa [he] at h

/-- Output 6 after the run. -/
theorem final_deqs (c : Dev nD) : (dats m 0 c).arrAt 6 cfg0.N = deqs (m ((c : Thread nD τ).loc main_arg0)) (m ((c : Thread nD τ).loc main_arg1)) :=
  ((dats m 0 c).arrAt_eq_of_cover 6 (deqs (V m c main_arg0) (V m c main_arg1)) (fun t _ => written6 m c t) covered6).trans
    (by rw [V_main_arg0, V_main_arg1])

/-- Every entry of output 7 is in the block of some grid point. -/
theorem covered7 (i : S3072x64.Idx) : ∃ t : Fin cfg0.N, (cfg0.win 7).flush t = true ∧ i ∈ ((cfg0.win 7).blk t).view.set := by
  have h0 : (i 0).val < 3072 := (i 0).isLt
  have h1 : (i 1).val < 64 := (i 1).isLt
  have ht : (i 0).val / 128 < cfg0.N := lt_of_lt_of_eq (by omega : (i 0).val / 128 < 24) N_0.symm
  obtain ⟨hf, e0, e1⟩ := index_facts7 ⟨(i 0).val / 128, ht⟩
  have e0' : win0_7.index ⟨(i 0).val / 128, ht⟩ (0 : Fin 2) = (i 0).val / 128 := e0
  refine ⟨⟨(i 0).val / 128, ht⟩, hf, ?_⟩
  have h := ((cfg0.win 7).blk ⟨(i 0).val / 128, ht⟩).view.emb_mem_set (show S128x64.Idx from ix2 ⟨(i 0).val % 128, by omega⟩ ⟨(i 1).val, h1⟩)
  have he : ((cfg0.win 7).blk ⟨(i 0).val / 128, ht⟩).view.emb (show S128x64.Idx from ix2 ⟨(i 0).val % 128, by omega⟩ ⟨(i 1).val, h1⟩) = i := by
    funext a; apply Fin.ext
    match a with
    | ⟨0, _⟩ => show win0_7.index ⟨(i 0).val / 128, ht⟩ (0 : Fin 2) * 128 + 1 * ((i 0).val % 128) = (i 0).val; omega
    | ⟨1, _⟩ => show win0_7.index ⟨(i 0).val / 128, ht⟩ (1 : Fin 2) * 64 + 1 * (i 1).val = (i 1).val; omega
  rwa [he] at h

/-- Output 7 after the run. -/
theorem final_steps (c : Dev nD) : (dats m 0 c).arrAt 7 cfg0.N = steps (m ((c : Thread nD τ).loc main_arg0)) (m ((c : Thread nD τ).loc main_arg1)) (m ((c : Thread nD τ).loc main_arg2)) (m ((c : Thread nD τ).loc main_arg3)) :=
  ((dats m 0 c).arrAt_eq_of_cover 7 (steps (V m c main_arg0) (V m c main_arg1) (m ((c : Thread nD τ).loc main_arg2)) (V m c main_arg3)) (fun t _ => written7 m c t) covered7).trans
    (by rw [V_main_arg0, V_main_arg1, V_main_arg3])

end Cert.QuantInIdeal.Value

end
-- ==== Proof.lean ====
module

public import proofs.«01_k».proof.Defs
public import proofs.«01_k».proof.Proof.Gen.QuantIn
public import proofs.«01_k».proof.Proof.Gen.QuantIn.Skeleton
public import proofs.«01_k».proof.Proof.Gen.QuantIn.Launch
public import proofs.«01_k».proof.Proof.Gen.QuantIn.Points
public import proofs.«01_k».proof.Proof.Gen.QuantIn.Frame
public import proofs.«01_k».proof.Proof.Gen.QuantInIdeal
public import proofs.«01_k».proof.Proof.Gen.QuantInIdeal.Skeleton
public import proofs.«01_k».proof.Proof.Gen.QuantInIdeal.Launch
public import proofs.«01_k».proof.Proof.Gen.QuantInIdeal.Points
public import proofs.«01_k».proof.Proof.Gen.QuantInIdeal.Frame
public import proofs.«01_k».proof.Proof.Gen.RefQuantIdeal
public import proofs.«01_k».proof.Proof.Gen.RefQuantIdeal.Skeleton
public import proofs.«01_k».proof.Proof.Gen.RefQuantIdeal.Launch
public import proofs.«01_k».proof.Proof.Gen.RefQuantIdeal.Points
public import proofs.«01_k».proof.Proof.Gen.RefQuantIdeal.Frame
public import proofs.«01_k».proof.Proof.Gen.QuantInIdeal.Value
public import proofs.«01_k».proof.Proof.Gen.RefQuantIdeal.Value
public import proofs.«01_k».proof.Proof.Gen.GemmOut
public import proofs.«01_k».proof.Proof.Gen.GemmOut.Skeleton
public import proofs.«01_k».proof.Proof.Gen.GemmOut.Launch
public import proofs.«01_k».proof.Proof.Gen.GemmOut.Points
public import proofs.«01_k».proof.Proof.Gen.GemmOut.Frame
public import proofs.«01_k».proof.Proof.Gen.GemmOutIdeal
public import proofs.«01_k».proof.Proof.Gen.GemmOutIdeal.Skeleton
public import proofs.«01_k».proof.Proof.Gen.GemmOutIdeal.Launch
public import proofs.«01_k».proof.Proof.Gen.GemmOutIdeal.Points
public import proofs.«01_k».proof.Proof.Gen.GemmOutIdeal.Frame
public import proofs.«01_k».proof.Proof.Gen.RefOutIdeal
public import proofs.«01_k».proof.Proof.Gen.RefOutIdeal.Skeleton
public import proofs.«01_k».proof.Proof.Gen.RefOutIdeal.Launch
public import proofs.«01_k».proof.Proof.Gen.RefOutIdeal.Points
public import proofs.«01_k».proof.Proof.Gen.RefOutIdeal.Frame
public import proofs.«01_k».proof.Proof.Gen.GemmIn
public import proofs.«01_k».proof.Proof.Gen.GemmIn.Skeleton
public import proofs.«01_k».proof.Proof.Gen.GemmIn.Launch
public import proofs.«01_k».proof.Proof.Gen.GemmIn.Points
public import proofs.«01_k».proof.Proof.Gen.GemmIn.Frame
public import proofs.«01_k».proof.Proof.Gen.GemmInIdeal
public import proofs.«01_k».proof.Proof.Gen.GemmInIdeal.Skeleton
public import proofs.«01_k».proof.Proof.Gen.GemmInIdeal.Launch
public import proofs.«01_k».proof.Proof.Gen.GemmInIdeal.Points
public import proofs.«01_k».proof.Proof.Gen.GemmInIdeal.Frame
public import proofs.«01_k».proof.Proof.Gen.RefInIdeal
public import proofs.«01_k».proof.Proof.Gen.RefInIdeal.Skeleton
public import proofs.«01_k».proof.Proof.Gen.RefInIdeal.Launch
public import proofs.«01_k».proof.Proof.Gen.RefInIdeal.Points
public import proofs.«01_k».proof.Proof.Gen.RefInIdeal.Frame
public import proofs.«01_k».proof.Proof.OutProduct
public import proofs.«01_k».proof.Proof.InProduct
public import proofs.«01_k».proof.Proof.QuantRef
public import proofs.«01_k».proof.Proof.QuantArrays
public import proofs.«01_k».proof.Proof.Gen.GemmOutIdeal.Value
public import proofs.«01_k».proof.Proof.Gen.RefOutIdeal.Value
public import proofs.«01_k».proof.Proof.Gen.GemmInIdeal.Value
public import proofs.«01_k».proof.Proof.Gen.RefInIdeal.Value
public import Idealize.ShloMosaic.Adequacy
public import Idealize.ShloMosaic.Init

@[expose] public section

noncomputable section

namespace Cert.Proof

open Idealize.ShloMosaic Idealize.SL.Sem Cert.GemmOut

instance : Cert.QuantInIdeal.Facts := Cert.QuantInIdeal.Gen.facts
instance : Cert.RefQuantIdeal.Facts := Cert.RefQuantIdeal.Gen.facts
instance : Cert.GemmOutIdeal.Facts := Cert.GemmOutIdeal.Gen.facts
instance : Cert.RefOutIdeal.Facts := Cert.RefOutIdeal.Gen.facts
instance : Cert.GemmInIdeal.Facts := Cert.GemmInIdeal.Gen.facts
instance : Cert.RefInIdeal.Facts := Cert.RefInIdeal.Gen.facts

/-- The quantising call: kernel and reference both leave `codes`, `scales`, `deqs` and `steps` of the arguments. -/
theorem algebraic_quant : algebraic_QuantInIdeal_RefQuantIdeal := by
  intro m g m' g' _ hagree
  refine ⟨fun c => Cert.Quant.codes _ _, fun c => Cert.Quant.scales _ _, fun c => Cert.Quant.deqs _ _, fun c => Cert.Quant.steps _ _ _ _,
    (θ_run _ _ _).mono (fun r h c => ⟨(h c).1.trans (Cert.QuantInIdeal.Value.final_codes m c),
      (h c).2.1.trans (Cert.QuantInIdeal.Value.final_scales m c), (h c).2.2.1.trans (Cert.QuantInIdeal.Value.final_deqs m c),
      (h c).2.2.2.1.trans (Cert.QuantInIdeal.Value.final_steps m c), (h c).2.2.2.2⟩) (Cert.QuantInIdeal.Value.run_blocks m g),
    (θ_run _ _ _).mono (fun r h c => ⟨(h c).1.trans ?_, (h c).2.1.trans ?_, (h c).2.2.1.trans ?_, (h c).2.2.2.1.trans ?_, (h c).2.2.2.2⟩)
      (Cert.RefQuantIdeal.Value.run m' g')⟩
  all_goals
    obtain ⟨h0, h1, h2, h3⟩ := hagree c
    rw [h0, h1]
  · exact Cert.Quant.ref_codes _ _ _ _
  · exact Cert.Quant.ref_scales _ _ _ _
  · exact Cert.Quant.ref_deqs _ _ _ _
  · rw [h2, h3]
    exact Cert.Quant.ref_steps _ _ _ _

/-- The output projection: kernel and reference both leave `GemmOutIdeal.Value.product` of the arguments. -/
theorem algebraic_out : algebraic_GemmOutIdeal_RefOutIdeal := by
  intro m g m' g' _ hagree
  refine ⟨fun c => Cert.GemmOutIdeal.Value.product _ _ _ _,
    (θ_run _ _ _).mono (fun r h c => ⟨(h c).1.trans (Cert.GemmOutIdeal.Value.final m c), (h c).2⟩) (Cert.GemmOutIdeal.Value.run_blocks m g),
    (θ_run _ _ _).mono (fun r h c => ⟨(h c).1.trans ?_, (h c).2⟩) (Cert.RefOutIdeal.Value.run m' g')⟩
  obtain ⟨h0, h1, h2, h3⟩ := hagree c
  rw [h0, h1, h2, h3]
  exact Cert.GemmOutIdeal.Value.reference_eq _ _ _ _

/-- The input projection: kernel and reference both leave `GemmInIdeal.Value.product` of the arguments. -/
theorem algebraic_in : algebraic_GemmInIdeal_RefInIdeal := by
  intro m g m' g' _ hagree
  refine ⟨fun c => Cert.GemmInIdeal.Value.product _ _ _,
    (θ_run _ _ _).mono (fun r h c => ⟨(h c).1.trans (Cert.GemmInIdeal.Value.final m c), (h c).2⟩) (Cert.GemmInIdeal.Value.run_blocks m g),
    (θ_run _ _ _).mono (fun r h c => ⟨(h c).1.trans ?_, (h c).2⟩) (Cert.RefInIdeal.Value.run m' g')⟩
  obtain ⟨h0, h1, h2⟩ := hagree c
  rw [h0, h1, h2]
  exact Cert.GemmInIdeal.Value.reference_eq _ _ _

theorem claim : Cert.Claim := ⟨Cert.QuantIn.Gen.facts, Cert.QuantInIdeal.Gen.facts, Cert.RefQuantIdeal.Gen.facts, Cert.GemmOut.Gen.facts, Cert.GemmOutIdeal.Gen.facts, Cert.RefOutIdeal.Gen.facts, Cert.GemmIn.Gen.facts, Cert.GemmInIdeal.Gen.facts, Cert.RefInIdeal.Gen.facts,
  fun m ρ _ => Cert.QuantIn.Gen.frame m ρ, fun m ρ _ => Cert.QuantInIdeal.Gen.frame m ρ, fun m ρ _ => Cert.RefQuantIdeal.Gen.frame m ρ,
  fun m ρ _ => Cert.GemmOut.Gen.frame m ρ, fun m ρ _ => Cert.GemmOutIdeal.Gen.frame m ρ, fun m ρ _ => Cert.RefOutIdeal.Gen.frame m ρ,
  fun m ρ _ => Cert.GemmIn.Gen.frame m ρ, fun m ρ _ => Cert.GemmInIdeal.Gen.frame m ρ, fun m ρ _ => Cert.RefInIdeal.Gen.frame m ρ,
  trivial, algebraic_quant, trivial, algebraic_out, trivial, algebraic_in⟩

end Cert.Proof

end
